-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x8192 : Shape := ⟨2, ![4096, 8192]⟩
abbrev S4096x2048 : Shape := ⟨2, ![4096, 2048]⟩
abbrev S2x4096x512 : Shape := ⟨3, ![2, 4096, 512]⟩
abbrev S3x1024x2048 : Shape := ⟨3, ![3, 1024, 2048]⟩
abbrev S2 : Shape := ⟨1, ![2]⟩
abbrev S3x4 : Shape := ⟨2, ![3, 4]⟩
abbrev S_ : Shape := ⟨0, ![]⟩
abbrev S1 : Shape := ⟨1, ![1]⟩
abbrev S1x4096x512 : Shape := ⟨3, ![1, 4096, 512]⟩
abbrev S4096x512 : Shape := ⟨2, ![4096, 512]⟩
abbrev S1024x512 : Shape := ⟨2, ![1024, 512]⟩
abbrev S1x1024x512 : Shape := ⟨3, ![1, 1024, 512]⟩
abbrev S1x1 : Shape := ⟨2, ![1, 1]⟩

abbrev nBuf : Space → Nat
  | .hbm => 3
  | .vmem => 4
  | .smem => 0
  | _ => 0

abbrev bufTy : (tb : Table) → Fin (tcTables nBuf tb) → BufTy
  | .hbm, ⟨0, _⟩ => ⟨S1024x4096, .bf16⟩
  | .hbm, ⟨1, _⟩ => ⟨S4096x8192, .f32⟩
  | .hbm, ⟨2, _⟩ => ⟨S4096x2048, .bf16⟩
  | .local _ .vmem, ⟨0, _⟩ => ⟨S1024x4096, .bf16⟩
  | .local _ .vmem, ⟨1, _⟩ => ⟨S4096x2048, .bf16⟩
  | .local _ .vmem, ⟨2, _⟩ => ⟨S2x4096x512, .f32⟩
  | .local _ .vmem, ⟨3, _⟩ => ⟨S3x1024x2048, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_28 : BitVec 32) (c0_i32_35 : BitVec 32) : Fin 2 → Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c2_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c2048_i32 : BitVec 32 := 2048#32
  let v54 : BitVec 32 := Scalar.muli v53 c2048_i32
  let v55 : BitVec 32 := Scalar.addi v54 c0_i32_35
  ![0, v55.toNat]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v109 : BitVec 32 := Scalar.muli v2 c1024_i32
  let c0_i32_90 : BitVec 32 := 0#32
  ![v109.toNat, 0]
def k0_dev4 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_76 : BitVec 32 := 2#32
  let v110 : BitVec 32 := Scalar.addi v2 c2_i32_76
  let c4_i32_77 : BitVec 32 := 4#32
  let c0_i32_78 : BitVec 32 := 0#32
  let v111 : BitVec 1 := Scalar.cmpi .eq c4_i32_77 c0_i32_78
  let c1_i32_79 : BitVec 32 := 1#32
  let v112 : BitVec 32 := Scalar.select v111 c1_i32_79 c4_i32_77
  let v113 : BitVec 32 := Scalar.remsi v110 v112
  let c0_i32_81 : BitVec 32 := 0#32
  let v115 : BitVec 1 := Scalar.cmpi .slt v113 c0_i32_81
  let c0_i32_82 : BitVec 32 := 0#32
  let v116 : BitVec 1 := Scalar.cmpi .slt v112 c0_i32_82
  let v117 : BitVec 1 := Scalar.xori v115 v116
  let c0_i32_80 : BitVec 32 := 0#32
  let v114 : BitVec 1 := Scalar.cmpi .ne v113 c0_i32_80
  let v118 : BitVec 1 := Scalar.andi v117 v114
  let v119 : BitVec 32 := Scalar.addi v113 v112
  let v120 : BitVec 32 := Scalar.select v118 v119 v113
  let c1_i32_88 : BitVec 32 := 1#32
  let v121 : BitVec 32 := Scalar.muli v120 c1_i32_88
  let v122 : BitVec 32 := Scalar.addi c0_i32_89 v121
  v122.toNat
def k0_dev5 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_132 : BitVec 32 := 1#32
  let v179 : BitVec 32 := Scalar.addi v2 c1_i32_132
  let c4_i32_133 : BitVec 32 := 4#32
  let c0_i32_134 : BitVec 32 := 0#32
  let v180 : BitVec 1 := Scalar.cmpi .eq c4_i32_133 c0_i32_134
  let c1_i32_135 : BitVec 32 := 1#32
  let v181 : BitVec 32 := Scalar.select v180 c1_i32_135 c4_i32_133
  let v182 : BitVec 32 := Scalar.remsi v179 v181
  let c0_i32_137 : BitVec 32 := 0#32
  let v184 : BitVec 1 := Scalar.cmpi .slt v182 c0_i32_137
  let c0_i32_138 : BitVec 32 := 0#32
  let v185 : BitVec 1 := Scalar.cmpi .slt v181 c0_i32_138
  let v186 : BitVec 1 := Scalar.xori v184 v185
  let c0_i32_136 : BitVec 32 := 0#32
  let v183 : BitVec 1 := Scalar.cmpi .ne v182 c0_i32_136
  let v187 : BitVec 1 := Scalar.andi v186 v183
  let v188 : BitVec 32 := Scalar.addi v182 v181
  let v189 : BitVec 32 := Scalar.select v187 v188 v182
  let c1_i32_144 : BitVec 32 := 1#32
  let v190 : BitVec 32 := Scalar.muli v189 c1_i32_144
  let v191 : BitVec 32 := Scalar.addi c0_i32_145 v190
  v191.toNat
def k0_dev6 (d0 : Dev nD) : Nat :=
  let c0_i32_199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_186 : BitVec 32 := 3#32
  let v248 : BitVec 32 := Scalar.addi v2 c3_i32_186
  let c4_i32_187 : BitVec 32 := 4#32
  let c0_i32_188 : BitVec 32 := 0#32
  let v249 : BitVec 1 := Scalar.cmpi .eq c4_i32_187 c0_i32_188
  let c1_i32_189 : BitVec 32 := 1#32
  let v250 : BitVec 32 := Scalar.select v249 c1_i32_189 c4_i32_187
  let v251 : BitVec 32 := Scalar.remsi v248 v250
  let c0_i32_191 : BitVec 32 := 0#32
  let v253 : BitVec 1 := Scalar.cmpi .slt v251 c0_i32_191
  let c0_i32_192 : BitVec 32 := 0#32
  let v254 : BitVec 1 := Scalar.cmpi .slt v250 c0_i32_192
  let v255 : BitVec 1 := Scalar.xori v253 v254
  let c0_i32_190 : BitVec 32 := 0#32
  let v252 : BitVec 1 := Scalar.cmpi .ne v251 c0_i32_190
  let v256 : BitVec 1 := Scalar.andi v255 v252
  let v257 : BitVec 32 := Scalar.addi v251 v250
  let v258 : BitVec 32 := Scalar.select v256 v257 v251
  let c1_i32_198 : BitVec 32 := 1#32
  let v259 : BitVec 32 := Scalar.muli v258 c1_i32_198
  let v260 : BitVec 32 := Scalar.addi c0_i32_199 v259
  v260.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_240 : BitVec 32 := 1024#32
  let v316 : BitVec 32 := Scalar.muli v2 c1024_i32_240
  let c512_i32_255 : BitVec 32 := 512#32
  ![v316.toNat, 512]
def k0_dev7 (d0 : Dev nD) : Nat :=
  let c0_i32_254 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_241 : BitVec 32 := 2#32
  let v317 : BitVec 32 := Scalar.addi v2 c2_i32_241
  let c4_i32_242 : BitVec 32 := 4#32
  let c0_i32_243 : BitVec 32 := 0#32
  let v318 : BitVec 1 := Scalar.cmpi .eq c4_i32_242 c0_i32_243
  let c1_i32_244 : BitVec 32 := 1#32
  let v319 : BitVec 32 := Scalar.select v318 c1_i32_244 c4_i32_242
  let v320 : BitVec 32 := Scalar.remsi v317 v319
  let c0_i32_246 : BitVec 32 := 0#32
  let v322 : BitVec 1 := Scalar.cmpi .slt v320 c0_i32_246
  let c0_i32_247 : BitVec 32 := 0#32
  let v323 : BitVec 1 := Scalar.cmpi .slt v319 c0_i32_247
  let v324 : BitVec 1 := Scalar.xori v322 v323
  let c0_i32_245 : BitVec 32 := 0#32
  let v321 : BitVec 1 := Scalar.cmpi .ne v320 c0_i32_245
  let v325 : BitVec 1 := Scalar.andi v324 v321
  let v326 : BitVec 32 := Scalar.addi v320 v319
  let v327 : BitVec 32 := Scalar.select v325 v326 v320
  let c1_i32_253 : BitVec 32 := 1#32
  let v328 : BitVec 32 := Scalar.muli v327 c1_i32_253
  let v329 : BitVec 32 := Scalar.addi c0_i32_254 v328
  v329.toNat
def k0_dev8 (d0 : Dev nD) : Nat :=
  let c0_i32_310 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_297 : BitVec 32 := 1#32
  let v386 : BitVec 32 := Scalar.addi v2 c1_i32_297
  let c4_i32_298 : BitVec 32 := 4#32
  let c0_i32_299 : BitVec 32 := 0#32
  let v387 : BitVec 1 := Scalar.cmpi .eq c4_i32_298 c0_i32_299
  let c1_i32_300 : BitVec 32 := 1#32
  let v388 : BitVec 32 := Scalar.select v387 c1_i32_300 c4_i32_298
  let v389 : BitVec 32 := Scalar.remsi v386 v388
  let c0_i32_302 : BitVec 32 := 0#32
  let v391 : BitVec 1 := Scalar.cmpi .slt v389 c0_i32_302
  let c0_i32_303 : BitVec 32 := 0#32
  let v392 : BitVec 1 := Scalar.cmpi .slt v388 c0_i32_303
  let v393 : BitVec 1 := Scalar.xori v391 v392
  let c0_i32_301 : BitVec 32 := 0#32
  let v390 : BitVec 1 := Scalar.cmpi .ne v389 c0_i32_301
  let v394 : BitVec 1 := Scalar.andi v393 v390
  let v395 : BitVec 32 := Scalar.addi v389 v388
  let v396 : BitVec 32 := Scalar.select v394 v395 v389
  let c1_i32_309 : BitVec 32 := 1#32
  let v397 : BitVec 32 := Scalar.muli v396 c1_i32_309
  let v398 : BitVec 32 := Scalar.addi c0_i32_310 v397
  v398.toNat
def k0_dev9 (d0 : Dev nD) : Nat :=
  let c0_i32_366 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_353 : BitVec 32 := 3#32
  let v455 : BitVec 32 := Scalar.addi v2 c3_i32_353
  let c4_i32_354 : BitVec 32 := 4#32
  let c0_i32_355 : BitVec 32 := 0#32
  let v456 : BitVec 1 := Scalar.cmpi .eq c4_i32_354 c0_i32_355
  let c1_i32_356 : BitVec 32 := 1#32
  let v457 : BitVec 32 := Scalar.select v456 c1_i32_356 c4_i32_354
  let v458 : BitVec 32 := Scalar.remsi v455 v457
  let c0_i32_358 : BitVec 32 := 0#32
  let v460 : BitVec 1 := Scalar.cmpi .slt v458 c0_i32_358
  let c0_i32_359 : BitVec 32 := 0#32
  let v461 : BitVec 1 := Scalar.cmpi .slt v457 c0_i32_359
  let v462 : BitVec 1 := Scalar.xori v460 v461
  let c0_i32_357 : BitVec 32 := 0#32
  let v459 : BitVec 1 := Scalar.cmpi .ne v458 c0_i32_357
  let v463 : BitVec 1 := Scalar.andi v462 v459
  let v464 : BitVec 32 := Scalar.addi v458 v457
  let v465 : BitVec 32 := Scalar.select v463 v464 v458
  let c1_i32_365 : BitVec 32 := 1#32
  let v466 : BitVec 32 := Scalar.muli v465 c1_i32_365
  let v467 : BitVec 32 := Scalar.addi c0_i32_366 v466
  v467.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_407 : BitVec 32 := 1024#32
  let v523 : BitVec 32 := Scalar.muli v2 c1024_i32_407
  let c1024_i32_422 : BitVec 32 := 1024#32
  ![v523.toNat, 1024]
def k0_dev10 (d0 : Dev nD) : Nat :=
  let c0_i32_421 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_408 : BitVec 32 := 2#32
  let v524 : BitVec 32 := Scalar.addi v2 c2_i32_408
  let c4_i32_409 : BitVec 32 := 4#32
  let c0_i32_410 : BitVec 32 := 0#32
  let v525 : BitVec 1 := Scalar.cmpi .eq c4_i32_409 c0_i32_410
  let c1_i32_411 : BitVec 32 := 1#32
  let v526 : BitVec 32 := Scalar.select v525 c1_i32_411 c4_i32_409
  let v527 : BitVec 32 := Scalar.remsi v524 v526
  let c0_i32_413 : BitVec 32 := 0#32
  let v529 : BitVec 1 := Scalar.cmpi .slt v527 c0_i32_413
  let c0_i32_414 : BitVec 32 := 0#32
  let v530 : BitVec 1 := Scalar.cmpi .slt v526 c0_i32_414
  let v531 : BitVec 1 := Scalar.xori v529 v530
  let c0_i32_412 : BitVec 32 := 0#32
  let v528 : BitVec 1 := Scalar.cmpi .ne v527 c0_i32_412
  let v532 : BitVec 1 := Scalar.andi v531 v528
  let v533 : BitVec 32 := Scalar.addi v527 v526
  let v534 : BitVec 32 := Scalar.select v532 v533 v527
  let c1_i32_420 : BitVec 32 := 1#32
  let v535 : BitVec 32 := Scalar.muli v534 c1_i32_420
  let v536 : BitVec 32 := Scalar.addi c0_i32_421 v535
  v536.toNat
def k0_dev11 (d0 : Dev nD) : Nat :=
  let c0_i32_477 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_464 : BitVec 32 := 1#32
  let v593 : BitVec 32 := Scalar.addi v2 c1_i32_464
  let c4_i32_465 : BitVec 32 := 4#32
  let c0_i32_466 : BitVec 32 := 0#32
  let v594 : BitVec 1 := Scalar.cmpi .eq c4_i32_465 c0_i32_466
  let c1_i32_467 : BitVec 32 := 1#32
  let v595 : BitVec 32 := Scalar.select v594 c1_i32_467 c4_i32_465
  let v596 : BitVec 32 := Scalar.remsi v593 v595
  let c0_i32_469 : BitVec 32 := 0#32
  let v598 : BitVec 1 := Scalar.cmpi .slt v596 c0_i32_469
  let c0_i32_470 : BitVec 32 := 0#32
  let v599 : BitVec 1 := Scalar.cmpi .slt v595 c0_i32_470
  let v600 : BitVec 1 := Scalar.xori v598 v599
  let c0_i32_468 : BitVec 32 := 0#32
  let v597 : BitVec 1 := Scalar.cmpi .ne v596 c0_i32_468
  let v601 : BitVec 1 := Scalar.andi v600 v597
  let v602 : BitVec 32 := Scalar.addi v596 v595
  let v603 : BitVec 32 := Scalar.select v601 v602 v596
  let c1_i32_476 : BitVec 32 := 1#32
  let v604 : BitVec 32 := Scalar.muli v603 c1_i32_476
  let v605 : BitVec 32 := Scalar.addi c0_i32_477 v604
  v605.toNat
def k0_dev12 (d0 : Dev nD) : Nat :=
  let c0_i32_532 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_519 : BitVec 32 := 3#32
  let v662 : BitVec 32 := Scalar.addi v2 c3_i32_519
  let c4_i32_520 : BitVec 32 := 4#32
  let c0_i32_521 : BitVec 32 := 0#32
  let v663 : BitVec 1 := Scalar.cmpi .eq c4_i32_520 c0_i32_521
  let c1_i32_522 : BitVec 32 := 1#32
  let v664 : BitVec 32 := Scalar.select v663 c1_i32_522 c4_i32_520
  let v665 : BitVec 32 := Scalar.remsi v662 v664
  let c0_i32_524 : BitVec 32 := 0#32
  let v667 : BitVec 1 := Scalar.cmpi .slt v665 c0_i32_524
  let c0_i32_525 : BitVec 32 := 0#32
  let v668 : BitVec 1 := Scalar.cmpi .slt v664 c0_i32_525
  let v669 : BitVec 1 := Scalar.xori v667 v668
  let c0_i32_523 : BitVec 32 := 0#32
  let v666 : BitVec 1 := Scalar.cmpi .ne v665 c0_i32_523
  let v670 : BitVec 1 := Scalar.andi v669 v666
  let v671 : BitVec 32 := Scalar.addi v665 v664
  let v672 : BitVec 32 := Scalar.select v670 v671 v665
  let c1_i32_531 : BitVec 32 := 1#32
  let v673 : BitVec 32 := Scalar.muli v672 c1_i32_531
  let v674 : BitVec 32 := Scalar.addi c0_i32_532 v673
  v674.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_573 : BitVec 32 := 1024#32
  let v730 : BitVec 32 := Scalar.muli v2 c1024_i32_573
  let c1536_i32_588 : BitVec 32 := 1536#32
  ![v730.toNat, 1536]
def k0_dev13 (d0 : Dev nD) : Nat :=
  let c0_i32_587 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_574 : BitVec 32 := 2#32
  let v731 : BitVec 32 := Scalar.addi v2 c2_i32_574
  let c4_i32_575 : BitVec 32 := 4#32
  let c0_i32_576 : BitVec 32 := 0#32
  let v732 : BitVec 1 := Scalar.cmpi .eq c4_i32_575 c0_i32_576
  let c1_i32_577 : BitVec 32 := 1#32
  let v733 : BitVec 32 := Scalar.select v732 c1_i32_577 c4_i32_575
  let v734 : BitVec 32 := Scalar.remsi v731 v733
  let c0_i32_579 : BitVec 32 := 0#32
  let v736 : BitVec 1 := Scalar.cmpi .slt v734 c0_i32_579
  let c0_i32_580 : BitVec 32 := 0#32
  let v737 : BitVec 1 := Scalar.cmpi .slt v733 c0_i32_580
  let v738 : BitVec 1 := Scalar.xori v736 v737
  let c0_i32_578 : BitVec 32 := 0#32
  let v735 : BitVec 1 := Scalar.cmpi .ne v734 c0_i32_578
  let v739 : BitVec 1 := Scalar.andi v738 v735
  let v740 : BitVec 32 := Scalar.addi v734 v733
  let v741 : BitVec 32 := Scalar.select v739 v740 v734
  let c1_i32_586 : BitVec 32 := 1#32
  let v742 : BitVec 32 := Scalar.muli v741 c1_i32_586
  let v743 : BitVec 32 := Scalar.addi c0_i32_587 v742
  v743.toNat
def k0_dev14 (d0 : Dev nD) : Nat :=
  let c0_i32_643 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_630 : BitVec 32 := 1#32
  let v800 : BitVec 32 := Scalar.addi v2 c1_i32_630
  let c4_i32_631 : BitVec 32 := 4#32
  let c0_i32_632 : BitVec 32 := 0#32
  let v801 : BitVec 1 := Scalar.cmpi .eq c4_i32_631 c0_i32_632
  let c1_i32_633 : BitVec 32 := 1#32
  let v802 : BitVec 32 := Scalar.select v801 c1_i32_633 c4_i32_631
  let v803 : BitVec 32 := Scalar.remsi v800 v802
  let c0_i32_635 : BitVec 32 := 0#32
  let v805 : BitVec 1 := Scalar.cmpi .slt v803 c0_i32_635
  let c0_i32_636 : BitVec 32 := 0#32
  let v806 : BitVec 1 := Scalar.cmpi .slt v802 c0_i32_636
  let v807 : BitVec 1 := Scalar.xori v805 v806
  let c0_i32_634 : BitVec 32 := 0#32
  let v804 : BitVec 1 := Scalar.cmpi .ne v803 c0_i32_634
  let v808 : BitVec 1 := Scalar.andi v807 v804
  let v809 : BitVec 32 := Scalar.addi v803 v802
  let v810 : BitVec 32 := Scalar.select v808 v809 v803
  let c1_i32_642 : BitVec 32 := 1#32
  let v811 : BitVec 32 := Scalar.muli v810 c1_i32_642
  let v812 : BitVec 32 := Scalar.addi c0_i32_643 v811
  v812.toNat
def k0_dev15 (d0 : Dev nD) : Nat :=
  let c0_i32_699 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_686 : BitVec 32 := 3#32
  let v869 : BitVec 32 := Scalar.addi v2 c3_i32_686
  let c4_i32_687 : BitVec 32 := 4#32
  let c0_i32_688 : BitVec 32 := 0#32
  let v870 : BitVec 1 := Scalar.cmpi .eq c4_i32_687 c0_i32_688
  let c1_i32_689 : BitVec 32 := 1#32
  let v871 : BitVec 32 := Scalar.select v870 c1_i32_689 c4_i32_687
  let v872 : BitVec 32 := Scalar.remsi v869 v871
  let c0_i32_691 : BitVec 32 := 0#32
  let v874 : BitVec 1 := Scalar.cmpi .slt v872 c0_i32_691
  let c0_i32_692 : BitVec 32 := 0#32
  let v875 : BitVec 1 := Scalar.cmpi .slt v871 c0_i32_692
  let v876 : BitVec 1 := Scalar.xori v874 v875
  let c0_i32_690 : BitVec 32 := 0#32
  let v873 : BitVec 1 := Scalar.cmpi .ne v872 c0_i32_690
  let v877 : BitVec 1 := Scalar.andi v876 v873
  let v878 : BitVec 32 := Scalar.addi v872 v871
  let v879 : BitVec 32 := Scalar.select v877 v878 v872
  let c1_i32_698 : BitVec 32 := 1#32
  let v880 : BitVec 32 := Scalar.muli v879 c1_i32_698
  let v881 : BitVec 32 := Scalar.addi c0_i32_699 v880
  v881.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_738 : BitVec 32 := 1024#32
  let v934 : BitVec 32 := Scalar.muli v2 c1024_i32_738
  let v935 : Index := Scalar.indexCast v934
  let c0_739 : Index := 0#32
  ![v935.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_775 : BitVec 32 := 1024#32
  let v982 : BitVec 32 := Scalar.muli v2 c1024_i32_775
  let v983 : Index := Scalar.indexCast v982
  let c512_776 : Index := 512#32
  ![v983.toNat, 512]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_812 : BitVec 32 := 1024#32
  let v1030 : BitVec 32 := Scalar.muli v2 c1024_i32_812
  let v1031 : Index := Scalar.indexCast v1030
  let c1024_813 : Index := 1024#32
  ![v1031.toNat, 1024]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_835 : BitVec 32 := 1024#32
  let v1060 : BitVec 32 := Scalar.muli v2 c1024_i32_835
  let v1061 : Index := Scalar.indexCast v1060
  let c1536_836 : Index := 1536#32
  ![v1061.toNat, 1536]
def k0_off10 (d0 : Dev nD) (c1_i32_837 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1063 : BitVec 32 := Scalar.subi v2 c1_i32_837
  let c4_i32_838 : BitVec 32 := 4#32
  let c0_i32_839 : BitVec 32 := 0#32
  let v1064 : BitVec 1 := Scalar.cmpi .eq c4_i32_838 c0_i32_839
  let c1_i32_840 : BitVec 32 := 1#32
  let v1065 : BitVec 32 := Scalar.select v1064 c1_i32_840 c4_i32_838
  let v1066 : BitVec 32 := Scalar.remsi v1063 v1065
  let c0_i32_842 : BitVec 32 := 0#32
  let v1068 : BitVec 1 := Scalar.cmpi .slt v1066 c0_i32_842
  let c0_i32_843 : BitVec 32 := 0#32
  let v1069 : BitVec 1 := Scalar.cmpi .slt v1065 c0_i32_843
  let v1070 : BitVec 1 := Scalar.xori v1068 v1069
  let c0_i32_841 : BitVec 32 := 0#32
  let v1067 : BitVec 1 := Scalar.cmpi .ne v1066 c0_i32_841
  let v1071 : BitVec 1 := Scalar.andi v1070 v1067
  let v1072 : BitVec 32 := Scalar.addi v1066 v1065
  let v1073 : BitVec 32 := Scalar.select v1071 v1072 v1066
  let c1024_i32_844 : BitVec 32 := 1024#32
  let v1074 : BitVec 32 := Scalar.muli v1073 c1024_i32_844
  let c0_i32_859 : BitVec 32 := 0#32
  ![v1074.toNat, 0]
def k0_off11 (d0 : Dev nD) (c1_i32_837 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1063 : BitVec 32 := Scalar.subi v2 c1_i32_837
  let c4_i32_838 : BitVec 32 := 4#32
  let c0_i32_839 : BitVec 32 := 0#32
  let v1064 : BitVec 1 := Scalar.cmpi .eq c4_i32_838 c0_i32_839
  let c1_i32_840 : BitVec 32 := 1#32
  let v1065 : BitVec 32 := Scalar.select v1064 c1_i32_840 c4_i32_838
  let v1066 : BitVec 32 := Scalar.remsi v1063 v1065
  let c0_i32_842 : BitVec 32 := 0#32
  let v1068 : BitVec 1 := Scalar.cmpi .slt v1066 c0_i32_842
  let c0_i32_843 : BitVec 32 := 0#32
  let v1069 : BitVec 1 := Scalar.cmpi .slt v1065 c0_i32_843
  let v1070 : BitVec 1 := Scalar.xori v1068 v1069
  let c0_i32_841 : BitVec 32 := 0#32
  let v1067 : BitVec 1 := Scalar.cmpi .ne v1066 c0_i32_841
  let v1071 : BitVec 1 := Scalar.andi v1070 v1067
  let v1072 : BitVec 32 := Scalar.addi v1066 v1065
  let v1073 : BitVec 32 := Scalar.select v1071 v1072 v1066
  let c1024_i32_862 : BitVec 32 := 1024#32
  let v1093 : BitVec 32 := Scalar.muli v1073 c1024_i32_862
  let c512_i32_877 : BitVec 32 := 512#32
  ![v1093.toNat, 512]
def k0_off12 (d0 : Dev nD) (c1_i32_837 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1063 : BitVec 32 := Scalar.subi v2 c1_i32_837
  let c4_i32_838 : BitVec 32 := 4#32
  let c0_i32_839 : BitVec 32 := 0#32
  let v1064 : BitVec 1 := Scalar.cmpi .eq c4_i32_838 c0_i32_839
  let c1_i32_840 : BitVec 32 := 1#32
  let v1065 : BitVec 32 := Scalar.select v1064 c1_i32_840 c4_i32_838
  let v1066 : BitVec 32 := Scalar.remsi v1063 v1065
  let c0_i32_842 : BitVec 32 := 0#32
  let v1068 : BitVec 1 := Scalar.cmpi .slt v1066 c0_i32_842
  let c0_i32_843 : BitVec 32 := 0#32
  let v1069 : BitVec 1 := Scalar.cmpi .slt v1065 c0_i32_843
  let v1070 : BitVec 1 := Scalar.xori v1068 v1069
  let c0_i32_841 : BitVec 32 := 0#32
  let v1067 : BitVec 1 := Scalar.cmpi .ne v1066 c0_i32_841
  let v1071 : BitVec 1 := Scalar.andi v1070 v1067
  let v1072 : BitVec 32 := Scalar.addi v1066 v1065
  let v1073 : BitVec 32 := Scalar.select v1071 v1072 v1066
  let c1024_i32_880 : BitVec 32 := 1024#32
  let v1112 : BitVec 32 := Scalar.muli v1073 c1024_i32_880
  let c1024_i32_895 : BitVec 32 := 1024#32
  ![v1112.toNat, 1024]
def k0_off13 (d0 : Dev nD) (c1_i32_837 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1063 : BitVec 32 := Scalar.subi v2 c1_i32_837
  let c4_i32_838 : BitVec 32 := 4#32
  let c0_i32_839 : BitVec 32 := 0#32
  let v1064 : BitVec 1 := Scalar.cmpi .eq c4_i32_838 c0_i32_839
  let c1_i32_840 : BitVec 32 := 1#32
  let v1065 : BitVec 32 := Scalar.select v1064 c1_i32_840 c4_i32_838
  let v1066 : BitVec 32 := Scalar.remsi v1063 v1065
  let c0_i32_842 : BitVec 32 := 0#32
  let v1068 : BitVec 1 := Scalar.cmpi .slt v1066 c0_i32_842
  let c0_i32_843 : BitVec 32 := 0#32
  let v1069 : BitVec 1 := Scalar.cmpi .slt v1065 c0_i32_843
  let v1070 : BitVec 1 := Scalar.xori v1068 v1069
  let c0_i32_841 : BitVec 32 := 0#32
  let v1067 : BitVec 1 := Scalar.cmpi .ne v1066 c0_i32_841
  let v1071 : BitVec 1 := Scalar.andi v1070 v1067
  let v1072 : BitVec 32 := Scalar.addi v1066 v1065
  let v1073 : BitVec 32 := Scalar.select v1071 v1072 v1066
  let c1024_i32_898 : BitVec 32 := 1024#32
  let v1131 : BitVec 32 := Scalar.muli v1073 c1024_i32_898
  let c1536_i32_913 : BitVec 32 := 1536#32
  ![v1131.toNat, 1536]
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x8192, .bf16⟩
  | .hbm, ⟨3, _⟩ => ⟨S4096x8192, .f32⟩
  | .hbm, ⟨4, _⟩ => ⟨S4096x8192, .bf16⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.KernelIdealProg.lean ====
/-
`Prog`: the kernel's body as a chain of steps.

The printed body is one long sequence of memory operations. Here it is written again as a chain of a few kinds of
step, each a definition over the things that vary (the slot of the weight buffer, the tile, the peer): the entry
handshake, the start of a weight tile's copy, the step that multiplies a tile and sends it, the step that multiplies
a tile of the device's own rows, and the two kinds of wait at the end. `cc0_body_eq` says that the printed body is
this chain; it holds by unfolding both.
-/
module

public import proofs.«01_k».proof.Proof.Gen.KernelIdeal
public import proofs.«01_k».proof.Proof.Gen.KernelIdeal.Skeleton
public import proofs.«01_k».proof.Proof.Gen.KernelIdeal.Launch

@[expose] public section

set_option synthInstance.maxSize 4096

noncomputable section

namespace Cert.KernelIdealMM

open Cert.KernelIdeal Cert.KernelIdeal.Gen
open Idealize.ShloMosaic Idealize.SL.Sem

variable {F : FTy → Type} [FloatOps F]

/-! ## The buffers and semaphores -/

abbrev xM : Memref sig .tc .vmem S1024x4096 .bf16 := Memref.whole cc0_stg0_0
abbrev wM : Memref sig .tc .hbm S4096x8192 .f32 := Memref.whole main_arg1
abbrev oM : Memref sig .tc .vmem S4096x2048 .bf16 := Memref.whole cc0_stg1_0
abbrev bM : Memref sig .tc .vmem S2x4096x512 .f32 := Memref.whole cc0_scratch0
abbrev sM : Memref sig .tc .vmem S3x1024x2048 .bf16 := Memref.whole cc0_scratch1

/-- The barrier semaphore. -/
abbrev barS : Sem sig := (SemArray.scalar (sig.barrier 0 rfl) : Sems sig S_).sem

set_option backward.proofsInPublic true in
theorem wsemInb (k : Fin 2) : ∀ a, (![k.val] : Fin 1 → Nat) a + S1.size a ≤ S2.size a := by revert k; decide
set_option backward.proofsInPublic true in
theorem semInb (j : Fin 3) (t : Fin 4) : ∀ a, (![j.val, t.val] : Fin 2 → Nat) a + S1x1.size a ≤ S3x4.size a := by
  revert j t; decide
set_option backward.proofsInPublic true in
theorem slotInb (k : Fin 2) : ∀ a, (![k.val, 0, 0] : Fin 3 → Nat) a + S1x4096x512.size a ≤ S2x4096x512.size a := by
  revert k; decide
set_option backward.proofsInPublic true in
theorem pieceInb (j : Fin 3) (t : Fin 4) :
    ∀ a, (![j.val, 0, 512 * t.val] : Fin 3 → Nat) a + S1x1024x512.size a ≤ S3x1024x2048.size a := by
  revert j t; decide

/-- The semaphore of a weight buffer's slot. -/
abbrev wS (k : Fin 2) : DmaSem sig :=
  ((cc0_scratch2.slice (Rect.unit (s := S2) ![k.val] S1.size (wsemInb k))).squeeze S_ squeezes_S1_S_).sem
/-- The semaphore a send completes on at its sender. -/
abbrev sS (j : Fin 3) (t : Fin 4) : DmaSem sig :=
  ((cc0_scratch3.slice (Rect.unit (s := S3x4) ![j.val, t.val] S1x1.size (semInb j t))).squeeze S_ squeezes_S1x1_S_).sem
/-- The semaphore a send completes on at its receiver. -/
abbrev rS (j : Fin 3) (t : Fin 4) : DmaSem sig :=
  ((cc0_scratch4.slice (Rect.unit (s := S3x4) ![j.val, t.val] S1x1.size (semInb j t))).squeeze S_ squeezes_S1x1_S_).sem

abbrev slotR (k : Fin 2) : Rect S2x4096x512 := Rect.unit (s := S2x4096x512) ![k.val, 0, 0] S1x4096x512.size (slotInb k)
abbrev pieceR (j : Fin 3) (t : Fin 4) : Rect S3x1024x2048 :=
  Rect.unit (s := S3x1024x2048) ![j.val, 0, 512 * t.val] S1x1024x512.size (pieceInb j t)
abbrev OffIn (off : Fin 2 → Nat) : Prop := ∀ a, off a + S1024x512.size a ≤ S4096x2048.size a
abbrev WOffIn (off : Fin 2 → Nat) : Prop := ∀ a, off a + S4096x512.size a ≤ S4096x8192.size a
abbrev tileR (off : Fin 2 → Nat) (h : OffIn off) : Rect S4096x2048 := Rect.unit (s := S4096x2048) off S1024x512.size h

/-- A slot of the weight buffer. -/
abbrev slotM (k : Fin 2) : Memref sig .tc .vmem S4096x512 .f32 :=
  (bM.slice (slotR k) (fun _ => rfl)).squeeze S4096x512 squeezes_S1x4096x512_S4096x512
/-- A piece of the send buffer. -/
abbrev pieceM (j : Fin 3) (t : Fin 4) : Memref sig .tc .vmem S1024x512 .bf16 :=
  (sM.slice (pieceR j t) (fun _ => rfl)).squeeze S1024x512 squeezes_S1x1024x512_S1024x512
/-- A tile of the result's window. -/
abbrev tileM (off : Fin 2 → Nat) (h : OffIn off) : Memref sig .tc .vmem S1024x512 .bf16 :=
  oM.slice (tileR off h) (fun _ => rfl)
/-- A tile of the weights. -/
abbrev wtM (off : Fin 2 → Nat) (h : WOffIn off) : Memref sig .tc .hbm S4096x512 .f32 :=
  wM.slice (Rect.unit (s := S4096x8192) off S4096x512.size h) (fun _ => rfl)

theorem pieceWords (j : Fin 3) (t : Fin 4) : (pieceR j t).WholeWords (EltTy.packing .bf16) :=
  match j, t with
  | 0, 0 => wordsbf16_S3x1024x2048_S1x1024x512_0_0_0
  | 0, 1 => wordsbf16_S3x1024x2048_S1x1024x512_0_0_512
  | 0, 2 => wordsbf16_S3x1024x2048_S1x1024x512_0_0_1024
  | 0, 3 => wordsbf16_S3x1024x2048_S1x1024x512_0_0_1536
  | 1, 0 => wordsbf16_S3x1024x2048_S1x1024x512_1_0_0
  | 1, 1 => wordsbf16_S3x1024x2048_S1x1024x512_1_0_512
  | 1, 2 => wordsbf16_S3x1024x2048_S1x1024x512_1_0_1024
  | 1, 3 => wordsbf16_S3x1024x2048_S1x1024x512_1_0_1536
  | 2, 0 => wordsbf16_S3x1024x2048_S1x1024x512_2_0_0
  | 2, 1 => wordsbf16_S3x1024x2048_S1x1024x512_2_0_512
  | 2, 2 => wordsbf16_S3x1024x2048_S1x1024x512_2_0_1024
  | 2, 3 => wordsbf16_S3x1024x2048_S1x1024x512_2_0_1536
theorem piecePacked (j : Fin 3) (t : Fin 4) : (pieceR j t).PackedRows (EltTy.packing .bf16) :=
  match j, t with
  | 0, 0 => packedbf16_S3x1024x2048_S1x1024x512_0_0_0
  | 0, 1 => packedbf16_S3x1024x2048_S1x1024x512_0_0_512
  | 0, 2 => packedbf16_S3x1024x2048_S1x1024x512_0_0_1024
  | 0, 3 => packedbf16_S3x1024x2048_S1x1024x512_0_0_1536
  | 1, 0 => packedbf16_S3x1024x2048_S1x1024x512_1_0_0
  | 1, 1 => packedbf16_S3x1024x2048_S1x1024x512_1_0_512
  | 1, 2 => packedbf16_S3x1024x2048_S1x1024x512_1_0_1024
  | 1, 3 => packedbf16_S3x1024x2048_S1x1024x512_1_0_1536
  | 2, 0 => packedbf16_S3x1024x2048_S1x1024x512_2_0_0
  | 2, 1 => packedbf16_S3x1024x2048_S1x1024x512_2_0_512
  | 2, 2 => packedbf16_S3x1024x2048_S1x1024x512_2_0_1024
  | 2, 3 => packedbf16_S3x1024x2048_S1x1024x512_2_0_1536
abbrev TWords (off : Fin 2 → Nat) (h : OffIn off) : Prop := (tileR off h).WholeWords (EltTy.packing .bf16)
abbrev TPacked (off : Fin 2 → Nat) (h : OffIn off) : Prop := (tileR off h).PackedRows (EltTy.packing .bf16)

/-! ## The values -/

/-- A tile of the product: the rows times the weight columns, kept above zero, rounded. -/
def tileVal (w : Vec F S4096x512 .f32) (x : Vec F S1024x4096 .bf16) : Vec F S1024x512 .bf16 :=
  truncf .bf16 (maximumf (matmul dot_S1024x4096_S4096x512_S1024x512_1_0_0_1_n_n none x
    (truncf .bf16 (w : FVec F S4096x512 .f32) bitsLt_bf16_f32 : FVec F S4096x512 .bf16) (constant S1024x512 .f32 0x00000000#32))
    (broadcast S1024x512 (Scalar.ofBits .f32 0x00000000#32))) bitsLt_bf16_f32

/-- The same from the values as loaded. -/
def tilePay (w : Vec F S1x4096x512 .f32) (x : Vec F S1024x4096 .bf16) : Vec F S1024x512 .bf16 :=
  tileVal (shapeCast S4096x512 w shapeCasts_S1x4096x512_S4096x512)
    (shapeCast S1024x4096 x shapeCasts_S1024x4096_S1024x4096)

/-! ## The steps -/

abbrev Pr (F : FTy → Type) [FloatOps F] : Type _ := Prog (TpuEff nD τ sig (Elt F) Λ₀ .tc) PUnit

/-- Signal a peer's barrier semaphore once. -/
abbrev sigOp (dev : Nat) (hdev : dev < nD) (K : Pr F) : Pr F :=
  .op (.semSignal (Dev.tc (⟨dev, hdev⟩ : Dev nD)) barS (1#32 : BitVec 32).toInt) fun _ => K

/-- Wait for the three peers. -/
abbrev barOp (K : Pr F) : Pr F := .op (.semWait barS (3#32 : BitVec 32).toInt) fun _ => K

/-- Start the copy of a weight tile into a slot. -/
def wStart (k : Fin 2) (off : Fin 2 → Nat) (h : WOffIn off) (K : Pr F) : Pr F :=
  .op (.enqueueDma (wtM off h) (.here (slotM k)) (.dma (wS k)) (View.wordExact_bits rfl)
    ((View.wordExact_bits rfl).reshape _ _) ⟨Or.inl rfl, trivial⟩) fun _ => K

/-- Wait for a weight tile and load it and the rows; the rest is over the two values. -/
def mulOp (k : Fin 2) (off : Fin 2 → Nat) (h : WOffIn off)
    (K : Vec F S1x4096x512 .f32 → Vec F S1024x4096 .bf16 → Pr F) : Pr F :=
  .op (.waitDma2 (wS k) (wtM off h) (slotM k) (View.wordExact_bits rfl) ((View.wordExact_bits rfl).reshape _ _)) fun _ =>
  .op (.load bM (slotR k).toLoadRect (View.loadsAt_vmem h_S1x4096x512)) fun w =>
  .op (.load xM (Rect.unit (s := S1024x4096) ![0, 0] S1024x4096.size inb_S1024x4096_S1024x4096_0_0).toLoadRect
    (View.loadsAt_vmem h_S1024x4096)) fun x => K w x

/-- Multiply a tile, store it in its piece of the send buffer and send that piece to a peer. -/
def sendOp (k : Fin 2) (j : Fin 3) (t : Fin 4) (offw : Fin 2 → Nat) (hw : WOffIn offw) (dev : Nat) (hdev : dev < nD)
    (off : Fin 2 → Nat) (h : OffIn off) (hwd : TWords off h) (K : Pr F) : Pr F :=
  mulOp k offw hw fun w x =>
  .op (.load sM (pieceR j t).toLoadRect (View.loadsAt_vmem h_S1x1024x512)) fun _ =>
  .op (.store sM (pieceR j t) (shapeCast S1x1024x512 (tilePay w x) shapeCasts_S1024x512_S1x1024x512) Finset.univ
    (View.stores_vmem h_S1x1024x512 ((Memref.isWhole_whole _).storeExact_slice rfl _ (piecePacked j t)) (fun _ => rfl)) (.inl rfl)) fun _ =>
  .op (.enqueueDma (pieceM j t) (.remote (Dev.tc (⟨dev, hdev⟩ : Dev nD)) (tileM off h) (.dma (sS j t))) (.dma (rS j t))
    (((Memref.isWhole_whole _).wordExact_slice rfl _ (pieceWords j t)).reshape _ _)
    ((Memref.isWhole_whole _).wordExact_slice rfl _ hwd) ⟨⟨rfl, Or.inl rfl⟩, trivial⟩) fun _ => K

/-- Multiply a tile and store it in the device's own rows of the result. -/
def ownOp (k : Fin 2) (offw : Fin 2 → Nat) (hw : WOffIn offw) (off : Fin 2 → Nat) (h : OffIn off) (hp : TPacked off h)
    (K : Pr F) : Pr F :=
  mulOp k offw hw fun w x =>
  .op (.load oM (tileR off h).toLoadRect (View.loadsAt_vmem h_S1024x512)) fun _ =>
  .op (.store oM (tileR off h) (tilePay w x) Finset.univ
    (View.stores_vmem h_S1024x512 ((Memref.isWhole_whole _).storeExact_slice rfl _ hp) (fun _ => rfl)) (.inl rfl)) fun _ => K

/-- Wait for a tile a peer sends. -/
def recvOp (j : Fin 3) (t : Fin 4) (off : Fin 2 → Nat) (h : OffIn off) (hwd : TWords off h) (K : Pr F) : Pr F :=
  .op (.waitDma2 (rS j t) (pieceM j t) (tileM off h)
    (((Memref.isWhole_whole _).wordExact_slice rfl _ (pieceWords j t)).reshape _ _)
    ((Memref.isWhole_whole _).wordExact_slice rfl _ hwd)) fun _ => K

/-- Wait for a send to have read its piece. -/
def sentOp (j : Fin 3) (t : Fin 4) (off : Fin 2 → Nat) (h : OffIn off) (hwd : TWords off h) (K : Pr F) : Pr F :=
  .op (.waitDma2 (sS j t) (tileM off h) (pieceM j t)
    ((Memref.isWhole_whole _).wordExact_slice rfl _ hwd)
    (((Memref.isWhole_whole _).wordExact_slice rfl _ (pieceWords j t)).reshape _ _)) fun _ => K

/-! ## The chain -/

/-- The entry handshake. -/
def chainBar (d : Dev nD) (K : Pr F) : Pr F :=
  sigOp (k0_dev1 d) (k0_dev1_lt d) <|
  sigOp (k0_dev2 d) (k0_dev2_lt d) <|
  sigOp (k0_dev3 d) (k0_dev3_lt d) <|
  barOp <|
  K

/-- The three sends of column tile 0, with the weight tiles they start. -/
def chainSend0 (d : Dev nD) (K : Pr F) : Pr F :=
  wStart 0 (k0_off1 d 2#32 0#32) (k0_off1_inb d 2 0) <|
  wStart 1 (k0_off1 d 1#32 0#32) (k0_off1_inb d 1 0) <|
  sendOp 0 1 0 (k0_off1 d 2#32 0#32) (k0_off1_inb d 2 0) (k0_dev4 d) (k0_dev4_lt d) (k0_off2 d) (k0_off2_inb d) (k0_off2_wordsbf16 d) <|
  wStart 0 (k0_off1 d 3#32 0#32) (k0_off1_inb d 3 0) <|
  sendOp 1 0 0 (k0_off1 d 1#32 0#32) (k0_off1_inb d 1 0) (k0_dev5 d) (k0_dev5_lt d) (k0_off2 d) (k0_off2_inb d) (k0_off2_wordsbf16 d) <|
  wStart 1 (k0_off1 d 2#32 512#32) (k0_off1_inb d 2 1) <|
  sendOp 0 2 0 (k0_off1 d 3#32 0#32) (k0_off1_inb d 3 0) (k0_dev6 d) (k0_dev6_lt d) (k0_off2 d) (k0_off2_inb d) (k0_off2_wordsbf16 d) <|
  K

/-- The three sends of column tile 1, with the weight tiles they start. -/
def chainSend1 (d : Dev nD) (K : Pr F) : Pr F :=
  wStart 0 (k0_off1 d 1#32 512#32) (k0_off1_inb d 1 1) <|
  sendOp 1 1 1 (k0_off1 d 2#32 512#32) (k0_off1_inb d 2 1) (k0_dev7 d) (k0_dev7_lt d) (k0_off3 d) (k0_off3_inb d) (k0_off3_wordsbf16 d) <|
  wStart 1 (k0_off1 d 3#32 512#32) (k0_off1_inb d 3 1) <|
  sendOp 0 0 1 (k0_off1 d 1#32 512#32) (k0_off1_inb d 1 1) (k0_dev8 d) (k0_dev8_lt d) (k0_off3 d) (k0_off3_inb d) (k0_off3_wordsbf16 d) <|
  wStart 0 (k0_off1 d 2#32 1024#32) (k0_off1_inb d 2 2) <|
  sendOp 1 2 1 (k0_off1 d 3#32 512#32) (k0_off1_inb d 3 1) (k0_dev9 d) (k0_dev9_lt d) (k0_off3 d) (k0_off3_inb d) (k0_off3_wordsbf16 d) <|
  K

/-- The three sends of column tile 2, with the weight tiles they start. -/
def chainSend2 (d : Dev nD) (K : Pr F) : Pr F :=
  wStart 1 (k0_off1 d 1#32 1024#32) (k0_off1_inb d 1 2) <|
  sendOp 0 1 2 (k0_off1 d 2#32 1024#32) (k0_off1_inb d 2 2) (k0_dev10 d) (k0_dev10_lt d) (k0_off4 d) (k0_off4_inb d) (k0_off4_wordsbf16 d) <|
  wStart 0 (k0_off1 d 3#32 1024#32) (k0_off1_inb d 3 2) <|
  sendOp 1 0 2 (k0_off1 d 1#32 1024#32) (k0_off1_inb d 1 2) (k0_dev11 d) (k0_dev11_lt d) (k0_off4 d) (k0_off4_inb d) (k0_off4_wordsbf16 d) <|
  wStart 1 (k0_off1 d 2#32 1536#32) (k0_off1_inb d 2 3) <|
  sendOp 0 2 2 (k0_off1 d 3#32 1024#32) (k0_off1_inb d 3 2) (k0_dev12 d) (k0_dev12_lt d) (k0_off4 d) (k0_off4_inb d) (k0_off4_wordsbf16 d) <|
  K

/-- The three sends of column tile 3, with the weight tiles they start. -/
def chainSend3 (d : Dev nD) (K : Pr F) : Pr F :=
  wStart 0 (k0_off1 d 1#32 1536#32) (k0_off1_inb d 1 3) <|
  sendOp 1 1 3 (k0_off1 d 2#32 1536#32) (k0_off1_inb d 2 3) (k0_dev13 d) (k0_dev13_lt d) (k0_off5 d) (k0_off5_inb d) (k0_off5_wordsbf16 d) <|
  wStart 1 (k0_off1 d 3#32 1536#32) (k0_off1_inb d 3 3) <|
  sendOp 0 0 3 (k0_off1 d 1#32 1536#32) (k0_off1_inb d 1 3) (k0_dev14 d) (k0_dev14_lt d) (k0_off5 d) (k0_off5_inb d) (k0_off5_wordsbf16 d) <|
  wStart 0 (k0_off1 d 0#32 0#32) (k0_off1_inb d 0 0) <|
  sendOp 1 2 3 (k0_off1 d 3#32 1536#32) (k0_off1_inb d 3 3) (k0_dev15 d) (k0_dev15_lt d) (k0_off5 d) (k0_off5_inb d) (k0_off5_wordsbf16 d) <|
  K

/-- The device's own rows. -/
def chainOwn (d : Dev nD) (K : Pr F) : Pr F :=
  wStart 1 (k0_off1 d 0#32 512#32) (k0_off1_inb d 0 1) <|
  ownOp 0 (k0_off1 d 0#32 0#32) (k0_off1_inb d 0 0) (k0_off6 d) (k0_off6_inb d) (k0_off6_packedbf16 d) <|
  wStart 0 (k0_off1 d 0#32 1024#32) (k0_off1_inb d 0 2) <|
  ownOp 1 (k0_off1 d 0#32 512#32) (k0_off1_inb d 0 1) (k0_off7 d) (k0_off7_inb d) (k0_off7_packedbf16 d) <|
  wStart 1 (k0_off1 d 0#32 1536#32) (k0_off1_inb d 0 3) <|
  ownOp 0 (k0_off1 d 0#32 1024#32) (k0_off1_inb d 0 2) (k0_off8 d) (k0_off8_inb d) (k0_off8_packedbf16 d) <|
  ownOp 1 (k0_off1 d 0#32 1536#32) (k0_off1_inb d 0 3) (k0_off9 d) (k0_off9_inb d) (k0_off9_packedbf16 d) <|
  K

/-- The waits for the tiles received. -/
def chainRecv (d : Dev nD) (K : Pr F) : Pr F :=
  recvOp 0 0 (k0_off10 d 1#32) (k0_off10_inb d 0) (k0_off10_wordsbf16 d 0) <|
  recvOp 0 1 (k0_off11 d 1#32) (k0_off11_inb d 0) (k0_off11_wordsbf16 d 0) <|
  recvOp 0 2 (k0_off12 d 1#32) (k0_off12_inb d 0) (k0_off12_wordsbf16 d 0) <|
  recvOp 0 3 (k0_off13 d 1#32) (k0_off13_inb d 0) (k0_off13_wordsbf16 d 0) <|
  recvOp 2 0 (k0_off10 d 3#32) (k0_off10_inb d 2) (k0_off10_wordsbf16 d 2) <|
  recvOp 2 1 (k0_off11 d 3#32) (k0_off11_inb d 2) (k0_off11_wordsbf16 d 2) <|
  recvOp 2 2 (k0_off12 d 3#32) (k0_off12_inb d 2) (k0_off12_wordsbf16 d 2) <|
  recvOp 2 3 (k0_off13 d 3#32) (k0_off13_inb d 2) (k0_off13_wordsbf16 d 2) <|
  recvOp 1 0 (k0_off10 d 2#32) (k0_off10_inb d 1) (k0_off10_wordsbf16 d 1) <|
  recvOp 1 1 (k0_off11 d 2#32) (k0_off11_inb d 1) (k0_off11_wordsbf16 d 1) <|
  recvOp 1 2 (k0_off12 d 2#32) (k0_off12_inb d 1) (k0_off12_wordsbf16 d 1) <|
  recvOp 1 3 (k0_off13 d 2#32) (k0_off13_inb d 1) (k0_off13_wordsbf16 d 1) <|
  K

/-- The waits for the tiles sent. -/
def chainSent (d : Dev nD) (K : Pr F) : Pr F :=
  sentOp 0 0 (k0_off2 d) (k0_off2_inb d) (k0_off2_wordsbf16 d) <|
  sentOp 0 1 (k0_off3 d) (k0_off3_inb d) (k0_off3_wordsbf16 d) <|
  sentOp 0 2 (k0_off4 d) (k0_off4_inb d) (k0_off4_wordsbf16 d) <|
  sentOp 0 3 (k0_off5 d) (k0_off5_inb d) (k0_off5_wordsbf16 d) <|
  sentOp 2 0 (k0_off2 d) (k0_off2_inb d) (k0_off2_wordsbf16 d) <|
  sentOp 2 1 (k0_off3 d) (k0_off3_inb d) (k0_off3_wordsbf16 d) <|
  sentOp 2 2 (k0_off4 d) (k0_off4_inb d) (k0_off4_wordsbf16 d) <|
  sentOp 2 3 (k0_off5 d) (k0_off5_inb d) (k0_off5_wordsbf16 d) <|
  sentOp 1 0 (k0_off2 d) (k0_off2_inb d) (k0_off2_wordsbf16 d) <|
  sentOp 1 1 (k0_off3 d) (k0_off3_inb d) (k0_off3_wordsbf16 d) <|
  sentOp 1 2 (k0_off4 d) (k0_off4_inb d) (k0_off4_wordsbf16 d) <|
  sentOp 1 3 (k0_off5 d) (k0_off5_inb d) (k0_off5_wordsbf16 d) <|
  K

/-- The body at the device it reads. -/
def chain (d : Dev nD) : Pr F :=
  chainBar d <| chainSend0 d <| chainSend1 d <| chainSend2 d <| chainSend3 d <| chainOwn d <| chainRecv d <|
  chainSent d (.ret ⟨⟩)

set_option maxRecDepth 65536 in
/-- The printed body is the chain. -/
theorem cc0_body_eq : (cc0_body (F := F) xM (Memref.isWhole_whole _) wM (Memref.isWhole_whole _) oM (Memref.isWhole_whole _)
    bM (Memref.isWhole_whole _) sM (Memref.isWhole_whole _) cc0_scratch2 cc0_scratch3 cc0_scratch4) =
    .op .deviceId fun d => chain d := rfl

end Cert.KernelIdealMM
-- ==== Proof.KernelIdealCommon.lean ====
/-
`Common`: the cells, what each hands over, and what each device owes.

Every device has one barrier cell, and for each of its twelve sends (slot `j` of the send buffer, column tile `t`) a cell
the send completes on at the sender and one at the receiver. The schedule is one round:

  * the barrier cell of `c` has three duties, one for each peer; the peer that pays one hands `c` the four tiles of its
    own result window that `c` writes;
  * the sender's cell hands back the piece of the send buffer the transfer read;
  * the receiver's cell hands the tile of the result window, holding the product of the sender's rows.
-/
module

public import proofs.«01_k».proof.Proof.KernelIdealProg
public import Idealize.ShloMosaic.Lib.Pipeline.Launch
public import Idealize.ShloMosaic.Lib.Pipeline.Kit
public import Idealize.ShloMosaic.Lib.Tactic
public import Idealize.ShloMosaic.Lib.Pointwise

@[expose] public section

noncomputable section

namespace Cert.KernelIdealMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's, the rounds' (duties `Fin 3`), and counters for the local copies -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance : (ER (F := F)).LandsIn (upEmb : UEmb _ 𝕄) := by unfold ER; infer_instance
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peers -/

set_option backward.proofsInPublic true in
/-- The device slot `j` of the send buffer goes to. -/
def pe (c : Dev nD) (j : Fin 3) : Dev nD := ⟨(c.val + (j.val + 1)) % 4, Nat.mod_lt _ (by decide)⟩
set_option backward.proofsInPublic true in
/-- The device whose slot `j` comes here. -/
def qe (c : Dev nD) (j : Fin 3) : Dev nD := ⟨(c.val + (3 - j.val)) % 4, Nat.mod_lt _ (by decide)⟩
/-- The slot of the opposite direction. -/
abbrev rv (j : Fin 3) : Fin 3 := Fin.rev j

theorem qe_pe (c : Dev nD) (j : Fin 3) : qe (pe c j) j = c := by revert c j; decide
theorem pe_qe (c : Dev nD) (j : Fin 3) : pe (qe c j) j = c := by revert c j; decide
theorem pe_rv (c : Dev nD) (j : Fin 3) : pe c (rv j) = qe c j := by revert c j; decide
theorem qe_rv (c : Dev nD) (j : Fin 3) : qe c (rv j) = pe c j := by revert c j; decide

def ringE (j : Fin 3) : Dev nD ≃ Dev nD := ⟨fun c => pe c j, fun c => qe c j, fun c => qe_pe c j, fun c => pe_qe c j⟩

/-! ## The offsets -/

/-- The offset of column tile `t` of row block `p` of the result window. -/
def toff (p : Dev nD) (t : Fin 4) : Fin 2 → Nat := ![1024 * p.val, 512 * t.val]
/-- The offset of column tile `t` of the columns of device `d` in the weights. -/
def woff (d : Dev nD) (t : Fin 4) : Fin 2 → Nat := ![0, 2048 * d.val + 512 * t.val]

set_option backward.proofsInPublic true in
theorem toff_in (p : Dev nD) (t : Fin 4) : OffIn (toff p t) := by unfold toff; revert p t; decide
set_option backward.proofsInPublic true in
theorem woff_in (d : Dev nD) (t : Fin 4) : WOffIn (woff d t) := by unfold woff; revert d t; decide

/-- The tile of row block `p` and column tile `t`. -/
abbrev tM (p : Dev nD) (t : Fin 4) : Memref sig .tc .vmem S1024x512 .bf16 := tileM (toff p t) (toff_in p t)
/-- The weights' column tile `t` for device `d`. -/
abbrev wT (d : Dev nD) (t : Fin 4) : Memref sig .tc .hbm S4096x512 .f32 := wtM (woff d t) (woff_in d t)

/-! ## The cells -/

abbrev JT : Type := Fin 3 × Fin 4

/-- The cells of the protocol on one device: the barrier's, the senders' (`false`) and the receivers' (`true`). -/
abbrev CK : Type := Option (Bool × JT)

abbrev csem : CK → SemLoc sig
  | none => .reg barS
  | some (false, jt) => .dma (sS jt.1 jt.2)
  | some (true, jt) => .dma (rS jt.1 jt.2)

theorem csem_injective : Function.Injective csem := by
  have h : ∀ a b : CK, csem a = csem b → a = b := by decide +kernel
  exact fun a b => h a b

abbrev kcell (ck : Dev nD × CK) : GSem nD τ sig := ((ck.1 : Thread nD τ), csem ck.2)
abbrev barCell (c : Dev nD) : GSem nD τ sig := kcell (c, none)
abbrev sendCell (c : Dev nD) (jt : JT) : GSem nD τ sig := kcell (c, some (false, jt))
abbrev recvCell (c : Dev nD) (jt : JT) : GSem nD τ sig := kcell (c, some (true, jt))

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Which cell of the protocol a semaphore is. -/
def dec (sm : SemLoc sig) : Option CK := by
  classical exact if h : ∃ k, csem k = sm then some h.choose else none

theorem dec_csem (k : CK) : dec (csem k) = some k := by
  have h : ∃ k', csem k' = csem k := ⟨k, rfl⟩
  unfold dec
  rw [dif_pos h]
  exact congrArg some (csem_injective h.choose_spec)

/-- The credit of a tile's transfer. -/
abbrev N : ℕ := (tM 0 0).view.dmaCredit
/-- The credit of a weight tile's copy. -/
abbrev Nw : ℕ := (slotM 0).view.dmaCredit
theorem N_pos : 0 < N := View.dmaCredit_pos _ (by decide)
theorem Nw_pos : 0 < Nw := View.dmaCredit_pos _ (by decide)
theorem credit_tile (off : Fin 2 → Nat) (h : OffIn off) : (tileM off h).view.dmaCredit = N := rfl
theorem credit_piece (j : Fin 3) (t : Fin 4) : (pieceM j t).view.dmaCredit = N := rfl
theorem credit_slot (k : Fin 2) : (slotM k).view.dmaCredit = Nw := rfl

/-! ## The contents -/

/-- Device `c`'s rows. -/
def xv (c : Dev nD) : (cc0_stg0_0 : Ref sig .tc).ty.Contents (Elt F) :=
  (win0_0.blk (0 : Fin 1)).view.read (Elt F) ((s₀ m ρ).mem ((c : Thread nD τ).loc main_arg0))

/-- The weights as device `c` holds them. -/
def wv (c : Dev nD) : Buf (Elt F) ((c : Thread nD τ).loc main_arg1) := m ((c : Thread nD τ).loc main_arg1)

/-- Column tile `t` for device `d`, from the weights device `c` holds. -/
def wTile (c d : Dev nD) (t : Fin 4) : Vec F S4096x512 .f32 := (wT d t).view.read (Elt F) (wv m c)

/-- The tile device `p` computes for device `c`'s column tile `t`. -/
def tileOf (p c : Dev nD) (t : Fin 4) : Vec F S1024x512 .bf16 := tileVal (wTile m p c t) (xv m ρ p)

/-- The result on device `c`: row block `p`, column tile `t` is the tile device `p` computes. -/
def outAt (c : Dev nD) : (cc0_stg1_0 : Ref sig .tc).ty.Contents (Elt F) := fun i =>
  tileOf m ρ ⟨(i (0 : Fin 2)).val / 1024, Nat.div_lt_of_lt_mul (i (0 : Fin 2)).isLt⟩ c
    ⟨(i (1 : Fin 2)).val / 512, Nat.div_lt_of_lt_mul (i (1 : Fin 2)).isLt⟩
    (Idealize.ShloMosaic.ix2 ⟨(i (0 : Fin 2)).val % 1024, Nat.mod_lt _ (by decide)⟩ ⟨(i (1 : Fin 2)).val % 512, Nat.mod_lt _ (by decide)⟩)

/-! ## The pieces held -/

/-- Tile `(p, t)` of the result window of device `c`. -/
def tilePts (c p : Dev nD) (t : Fin 4) (f : (cc0_stg1_0 : Ref sig .tc).ty.Contents (Elt F)) : sProp 𝕄 :=
  (tM p t).view.loc (c : Thread nD τ) ↦[(tM p t).view.set]{fullShare} f
/-- Piece `(j, t)` of the send buffer of device `c`. -/
def piecePts (c : Dev nD) (j : Fin 3) (t : Fin 4) (f : (cc0_scratch1 : Ref sig .tc).ty.Contents (Elt F)) : sProp 𝕄 :=
  (pieceM j t).view.loc (c : Thread nD τ) ↦[(pieceM j t).view.set]{fullShare} f
/-- Slot `k` of the weight buffer of device `c`. -/
def slotPts (c : Dev nD) (k : Fin 2) (f : (cc0_scratch0 : Ref sig .tc).ty.Contents (Elt F)) : sProp 𝕄 :=
  (slotM k).view.loc (c : Thread nD τ) ↦[(slotM k).view.set]{fullShare} f
/-- The share of the weights each slot's copies read from. -/
def wShare (k : Fin 2) : PosShare TreeShare := if k = 0 then fullShare.left.left else fullShare.left.right
/-- The weights of device `c`, at slot `k`'s share. -/
def wPts (c : Dev nD) (k : Fin 2) : sProp 𝕄 := ((c : Thread nD τ).loc main_arg1) ↦{wShare k} wv m c
/-- The rows of device `c`. -/
def xPts (c : Dev nD) : sProp 𝕄 := ((c : Thread nD τ).loc cc0_stg0_0) ↦{fullShare} xv m ρ c

instance tilePts_storable (c p : Dev nD) (t : Fin 4) (f) : BI.Storable (upEmb : UEmb _ 𝕄) (tilePts (F := F) c p t f) := by
  unfold tilePts; infer_instance
instance piecePts_storable (c : Dev nD) (j : Fin 3) (t : Fin 4) (f) :
    BI.Storable (upEmb : UEmb _ 𝕄) (piecePts (F := F) c j t f) := by
  unfold piecePts; infer_instance

/-! ## The schedule -/

/-- What the peer of duty `j` hands device `c`: the four tiles of its own window that `c` writes. -/
def barPay (c : Dev nD) (j : Fin 3) : sProp 𝕄 := bigSep Finset.univ fun t : Fin 4 => iprop(∃ f, tilePts (qe c j) c t f)
/-- What a completed send hands its sender. -/
def sendPay (c : Dev nD) (jt : JT) : sProp 𝕄 := iprop(∃ f, piecePts c jt.1 jt.2 f)
/-- What a completed send hands its receiver. -/
def recvPay (c : Dev nD) (jt : JT) : sProp 𝕄 := tilePts c (qe c jt.1) jt.2 (outAt m ρ c)

def dutiesOf : Option CK → Finset (Fin 3)
  | none => ∅ | some none => Finset.univ | some (some _) => {0}
def amountOf : Option CK → ℕ
  | some (some _) => N | _ => 1
def payOf (c : Dev nD) (d : Fin 3) : Option CK → sProp 𝕄
  | none => iprop(emp) | some none => barPay c d
  | some (some (false, jt)) => sendPay c jt | some (some (true, jt)) => recvPay m ρ c jt
def levOf : Option CK → ℕ
  | some none => 1 | some (some (true, _)) => 2 | _ => 0

theorem amountOf_pos (k : Option CK) : 0 < amountOf k := by
  rcases k with _ | _ | _
  · exact Nat.one_pos
  · exact Nat.one_pos
  · exact N_pos

/-- One round, round 0. -/
def Rd : Rounds.Schedule (GSem nD τ sig) (Fin 3) 𝕄 where
  duties g r := if r = 0 ∧ g.1.2 = .tc then dutiesOf (dec g.2) else ∅
  unitless _ := False
  amount g _ _ := amountOf (dec g.2)
  payload g _ d := payOf m ρ g.1.1 d (dec g.2)
  amount_pos g _ _ _ := amountOf_pos _

instance Rd_payload_storable (g : GSem nD τ sig) (r : ℕ) (d : Fin 3) :
    BI.Storable (upEmb : UEmb _ 𝕄) ((Rd (F := F) m ρ).payload g r d) := by
  show BI.Storable upEmb (payOf m ρ g.1.1 d (dec g.2))
  rcases dec g.2 with _ | _ | ⟨_ | _, jt⟩
  · unfold payOf; infer_instance
  · show BI.Storable upEmb (barPay g.1.1 d); unfold barPay; infer_instance
  · show BI.Storable upEmb (sendPay g.1.1 jt); unfold sendPay; infer_instance
  · show BI.Storable upEmb (recvPay m ρ g.1.1 jt); unfold recvPay; infer_instance

section Sched
variable (c : Dev nD) (jt : JT)

theorem duties_at (k : CK) : (Rd (F := F) m ρ).duties (kcell (c, k)) 0 = dutiesOf (some k) := by
  dsimp only [Rd]; rw [if_pos ⟨rfl, rfl⟩, dec_csem]
theorem duties_bar : (Rd (F := F) m ρ).duties (barCell c) 0 = Finset.univ := duties_at m ρ c none
theorem duties_send : (Rd (F := F) m ρ).duties (sendCell c jt) 0 = {0} := duties_at m ρ c _
theorem duties_recv : (Rd (F := F) m ρ).duties (recvCell c jt) 0 = {0} := duties_at m ρ c _
theorem duties_later (g : GSem nD τ sig) : ∀ r, 1 ≤ r → (Rd (F := F) m ρ).duties g r = ∅ :=
  fun r hr => by dsimp only [Rd]; rw [if_neg fun h => by omega]
theorem amount_at (k : CK) (d : Fin 3) : (Rd (F := F) m ρ).amount (kcell (c, k)) 0 d = amountOf (some k) := by
  dsimp only [Rd]; rw [dec_csem]
theorem amount_bar (d : Fin 3) : (Rd (F := F) m ρ).amount (barCell c) 0 d = 1 := amount_at m ρ c none d
theorem amount_send (d : Fin 3) : (Rd (F := F) m ρ).amount (sendCell c jt) 0 d = N := amount_at m ρ c _ d
theorem amount_recv (d : Fin 3) : (Rd (F := F) m ρ).amount (recvCell c jt) 0 d = N := amount_at m ρ c _ d
theorem payload_at (k : CK) (d : Fin 3) : (Rd (F := F) m ρ).payload (kcell (c, k)) 0 d = payOf m ρ c d (some k) := by
  dsimp only [Rd]; rw [dec_csem]
theorem payload_bar (d : Fin 3) : (Rd (F := F) m ρ).payload (barCell c) 0 d = barPay c d := payload_at m ρ c none d
theorem payload_send (d : Fin 3) : (Rd (F := F) m ρ).payload (sendCell c jt) 0 d = sendPay c jt := payload_at m ρ c _ d
theorem payload_recv (d : Fin 3) : (Rd (F := F) m ρ).payload (recvCell c jt) 0 d = recvPay m ρ c jt := payload_at m ρ c _ d

theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin,
    smul_eq_mul]
theorem expect_send : (Rd (F := F) m ρ).expect (sendCell c jt) 0 = N := by
  unfold Schedule.expect Schedule.amountOf; rw [duties_send, Finset.sum_singleton, amount_send]
theorem expect_recv : (Rd (F := F) m ρ).expect (recvCell c jt) 0 = N := by
  unfold Schedule.expect Schedule.amountOf; rw [duties_recv, Finset.sum_singleton, amount_recv]

theorem rest_bar : bigSep ((Rd (F := F) m ρ).duties (barCell c) 0 \ ∅) (fun d => (Rd (F := F) m ρ).payload (barCell c) 0 d)
    = bigSep Finset.univ fun j : Fin 3 => (barPay c j : sProp 𝕄) := by
  rw [Finset.sdiff_empty, duties_bar]; exact bigSep_congr fun d _ => payload_bar m ρ c d
theorem rest_send : bigSep ((Rd (F := F) m ρ).duties (sendCell c jt) 0 \ ∅)
    (fun d => (Rd (F := F) m ρ).payload (sendCell c jt) 0 d) = sendPay c jt := by
  rw [Finset.sdiff_empty, duties_send, bigSep_singleton, payload_send]
theorem rest_recv : bigSep ((Rd (F := F) m ρ).duties (recvCell c jt) 0 \ ∅)
    (fun d => (Rd (F := F) m ρ).payload (recvCell c jt) 0 d) = recvPay m ρ c jt := by
  rw [Finset.sdiff_empty, duties_recv, bigSep_singleton, payload_recv]

end Sched

/-! ## What each device owes; the levels -/

/-- The credits device `c` owes its peers' receive cells for the sends `l`, the first of them last in the sum. -/
def oweL (c : Dev nD) : List JT → CellTallies nD τ sig Unit
  | [] => 0
  | jt :: l => oweL c l + tallyAt (recvCell (pe c jt.1) jt) () N

/-- The sends in program order. -/
def sendOrder : List JT :=
  [(1, 0), (0, 0), (2, 0), (1, 1), (0, 1), (2, 1), (1, 2), (0, 2), (2, 2), (1, 3), (0, 3), (2, 3)]

/-- Owed from the barrier's wait on, and before each of the three signals. -/
def O₃ (c : Dev nD) : CellTallies nD τ sig Unit := oweL c sendOrder
def O₂ (c : Dev nD) : CellTallies nD τ sig Unit := O₃ c + tallyAt (barCell (pe c 2)) () 1
def O₁ (c : Dev nD) : CellTallies nD τ sig Unit := O₂ c + tallyAt (barCell (pe c 1)) () 1
def O₀ (c : Dev nD) : CellTallies nD τ sig Unit := O₁ c + tallyAt (barCell (pe c 0)) () 1

def L (g : GSem nD τ sig) : Finset Unit := if g.1.2 = .tc then {()} else ∅
/-- Barrier cells at 1, receive cells at 2, everything else at 0. -/
def lv (g : GSem nD τ sig) (_ : Unit) : ℕ := levOf (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : CK) : lv (kcell (c, k)) () = levOf (some k) := by unfold lv; rw [dec_csem]

theorem tally_pos {g g' : GSem nD τ sig} {n : ℕ} {u : Unit} (h : 0 < (tallyAt g () n : CellTallies nD τ sig Unit) g' u) :
    g' = g := by
  rw [tallyAt_apply] at h
  by_contra hn
  rw [if_neg (fun h' => hn h'.1)] at h
  exact Nat.lt_irrefl 0 h

theorem oweL_pos {c : Dev nD} : ∀ {l : List JT} {g : GSem nD τ sig} {u : Unit}, 0 < oweL c l g u →
    ∃ c' jt, g = recvCell c' jt
  | [], g, u, h => absurd h (Nat.lt_irrefl 0)
  | jt :: l, g, u, h => by
    unfold oweL at h
    rw [Pi.add_apply, Finsupp.add_apply] at h
    rcases Nat.eq_zero_or_pos (oweL c l g u) with h0 | h0
    · rw [h0, Nat.zero_add] at h
      exact ⟨_, jt, tally_pos h⟩
    · exact oweL_pos h0

theorem O₀_pos {c : Dev nD} {g : GSem nD τ sig} {u : Unit} (h : 0 < O₀ c g u) :
    ∃ c' k, g = kcell (c', k) ∧ 0 < levOf (some k) := by
  unfold O₀ O₁ O₂ O₃ at h
  rw [Pi.add_apply, Finsupp.add_apply, Pi.add_apply, Finsupp.add_apply, Pi.add_apply, Finsupp.add_apply] at h
  by_cases h1 : 0 < (tallyAt (barCell (pe c 0)) () 1 : CellTallies nD τ sig Unit) g u
  · exact ⟨_, _, tally_pos h1, Nat.one_pos⟩
  by_cases h2 : 0 < (tallyAt (barCell (pe c 1)) () 1 : CellTallies nD τ sig Unit) g u
  · exact ⟨_, _, tally_pos h2, Nat.one_pos⟩
  by_cases h3 : 0 < (tallyAt (barCell (pe c 2)) () 1 : CellTallies nD τ sig Unit) g u
  · exact ⟨_, _, tally_pos h3, Nat.one_pos⟩
  have h4 : 0 < oweL c sendOrder g u := by omega
  obtain ⟨c', jt, hg⟩ := oweL_pos h4
  exact ⟨c', _, hg, by show (_ : ℕ) < 2; omega⟩

/-- A wait is allowed while everything owed stands at a higher level. -/
theorem mayWait_of (c : Dev nD) (sm : SemLoc sig) (n : ℕ) (O : CellTallies nD τ sig Unit) (hsm : lv ((c : Thread nD τ), sm) () ≤ n)
    (hO : ∀ g u, 0 < O g u → ∃ c' k, g = kcell (c', k) ∧ n < levOf (some k)) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨c', k, rfl, _⟩ := hO g u hg; exact Finset.mem_singleton_self _)
    (fun p hp => by rw [Finset.mem_singleton.mp hp]; exact hsm)
    (fun g u hg => by obtain ⟨c', k, rfl, h⟩ := hO g u hg; rw [lv_at]; exact h)

/-- A wait on a semaphore that is no barrier's and no receiver's, while sends are owed. -/
theorem mayWait_send (c : Dev nD) (sm : SemLoc sig) (hsm : lv ((c : Thread nD τ), sm) () = 0) (l : List JT) :
    (levAts L lv : sProp 𝕄) ⊢ MayWait (c : Thread nD τ) sm () (oweL c l) :=
  mayWait_of c sm 0 _ hsm.le fun g u h => by obtain ⟨c', jt, hg⟩ := oweL_pos h; exact ⟨c', _, hg, by show (_ : ℕ) < 2; omega⟩

theorem mayWait_bar (c : Dev nD) : (levAts L lv : sProp 𝕄) ⊢ MayWait (c : Thread nD τ) (.reg barS) () (O₃ c) :=
  mayWait_of c _ 1 _ (lv_at c none).le fun g u h => by obtain ⟨c', jt, hg⟩ := oweL_pos h; exact ⟨c', _, hg, by show (_ : ℕ) < 2; omega⟩

/-- A semaphore that is none of the protocol's is at level 0. -/
theorem lv_other (c : Dev nD) (sm : SemLoc sig) (h : ∀ k, csem k ≠ sm) : lv ((c : Thread nD τ), sm) () = 0 := by
  unfold lv dec
  rw [dif_neg (fun ⟨k, hk⟩ => h k hk)]
  rfl

theorem lv_wS (c : Dev nD) (k : Fin 2) : lv ((c : Thread nD τ), .dma (wS k)) () = 0 :=
  lv_other c _ (by have h : ∀ k k', csem k' ≠ .dma (wS k) := by decide +kernel
                   exact h k)

end Cert.KernelIdealMM
-- ==== Proof.KernelIdealPieces.lean ====
/-
`Pieces`: what the copies, loads and stores leave in the pieces of the buffers, and the buffers as sums of their pieces.
-/
module

public import proofs.«01_k».proof.Proof.KernelIdealCommon
public import Idealize.ShloMosaic.Lib.ViewIndex

@[expose] public section

noncomputable section

namespace Cert.KernelIdealMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The result at an index of tile `(p, t)` is that tile there. -/
theorem outAt_emb (c p : Dev nD) (t : Fin 4) (i : S1024x512.Idx) :
    outAt m ρ c ((tM p t).view.emb i) = tileOf m ρ p c t i := by
  have e0 : (((tM p t).view.emb i : S4096x2048.Idx) (0 : Fin 2)).val = 1024 * p.val + (i (0 : Fin 2)).val := by
    show 1024 * p.val + 1 * (i (0 : Fin 2)).val = _; omega
  have e1 : (((tM p t).view.emb i : S4096x2048.Idx) (1 : Fin 2)).val = 512 * t.val + (i (1 : Fin 2)).val := by
    show 512 * t.val + 1 * (i (1 : Fin 2)).val = _; omega
  have h0 : (i (0 : Fin 2)).val < 1024 := (i (0 : Fin 2)).isLt
  have h1 : (i (1 : Fin 2)).val < 512 := (i (1 : Fin 2)).isLt
  have key : ∀ (p' : Dev nD) (t' : Fin 4) (i' : S1024x512.Idx), p' = p → t' = t → i' = i →
      tileOf m ρ p' c t' i' = tileOf m ρ p c t i := by rintro _ _ _ rfl rfl rfl; rfl
  refine key _ _ _ (Fin.ext ?_) (Fin.ext ?_) ?_
  · show (((tM p t).view.emb i : S4096x2048.Idx) (0 : Fin 2)).val / 1024 = p.val
    rw [e0]; omega
  · show (((tM p t).view.emb i : S4096x2048.Idx) (1 : Fin 2)).val / 512 = t.val
    rw [e1]; omega
  · rw [eq_ix2 i]
    refine congrArg₂ ix2 (Fin.ext ?_) (Fin.ext ?_)
    · show (((tM p t).view.emb i : S4096x2048.Idx) (0 : Fin 2)).val % 1024 = (i (0 : Fin 2)).val
      rw [e0]; omega
    · show (((tM p t).view.emb i : S4096x2048.Idx) (1 : Fin 2)).val % 512 = (i (1 : Fin 2)).val
      rw [e1]; omega

/-- A tile of the window after the tile's values are written to it. -/
theorem tilePts_write (c p : Dev nD) (t : Fin 4) (f : (cc0_stg1_0 : Ref sig .tc).ty.Contents (Elt F))
    (V : Vec F S1024x512 .bf16) (hV : V = tileOf m ρ p c t) :
    (tilePts c p t ((tM p t).view.write (Elt F) f V Finset.univ) : sProp 𝕄) = tilePts c p t (outAt m ρ c) := by
  unfold tilePts
  refine pointsTo_congr fun i hi => ?_
  obtain ⟨x, -, rfl⟩ := Finset.mem_map.mp hi
  subst hV
  rw [outAt_emb]
  exact congrFun (View.read_write_univ (v := (tM p t).view) f (tileOf m ρ p c t)) x

/-- What a transfer reads from a piece of the send buffer that a tile was stored in. -/
theorem piece_read (j : Fin 3) (t : Fin 4) (f : (cc0_scratch1 : Ref sig .tc).ty.Contents (Elt F)) (V : Vec F S1024x512 .bf16) :
    (pieceM j t).view.read (Elt F) ((sM.access (pieceR j t)).write (Elt F) f
      (shapeCast S1x1024x512 V shapeCasts_S1024x512_S1x1024x512) Finset.univ) = V := by
  have h := View.read_write_univ (v := (sM.access (pieceR j t))) f (shapeCast S1x1024x512 V shapeCasts_S1024x512_S1x1024x512)
  funext x
  refine (congrFun h (Shape.reshapeEquiv squeezes_S1x1024x512_S1024x512.numel_eq x)).trans ?_
  show V (Shape.reshapeEquiv _ (Shape.reshapeEquiv _ x)) = V x
  rw [Shape.reshapeEquiv_reshapeEquiv, Shape.reshapeEquiv_self]

/-- What a load of a slot reads after a weight tile was copied to it. -/
theorem slot_read (k : Fin 2) (f : (cc0_scratch0 : Ref sig .tc).ty.Contents (Elt F)) (W : Vec F S4096x512 .f32) :
    shapeCast S4096x512 ((bM.access (slotR k)).read (Elt F) ((slotM k).view.write (Elt F) f W Finset.univ))
      shapeCasts_S1x4096x512_S4096x512 = W := by
  funext x
  exact View.read_write_reshape (bM.access (slotR k)) squeezes_S1x4096x512_S4096x512.numel_eq f W x

/-- What a load of all the rows reads. -/
theorem x_read (f : (cc0_stg0_0 : Ref sig .tc).ty.Contents (Elt F)) :
    xM.view.readAt (Elt F) (Rect.unit (s := S1024x4096) ![0, 0] S1024x4096.size inb_S1024x4096_S1024x4096_0_0).toLoadRect f = f :=
  Memref.readAt_unit_zero (Elt F) cc0_stg0_0 (funext fun a => by fin_cases a <;> rfl) _ f

theorem x_cast (x : Vec F S1024x4096 .bf16) : shapeCast S1024x4096 x shapeCasts_S1024x4096_S1024x4096 = x := by
  funext i
  show x (Shape.reshapeEquiv _ i) = x i
  rw [Shape.reshapeEquiv_self]

theorem tilePay_eq (w : Vec F S1x4096x512 .f32) (x : Vec F S1024x4096 .bf16) (W : Vec F S4096x512 .f32)
    (h : shapeCast S4096x512 w shapeCasts_S1x4096x512_S4096x512 = W) : tilePay w x = tileVal W x := by
  unfold tilePay; rw [h, x_cast]

/-! ## Sets -/

theorem set_tile (p : Dev nD) (t : Fin 4) : (tM p t).view.set = (tileR (toff p t) (toff_in p t)).set := View.set_slice_whole _ _
theorem set_piece (j : Fin 3) (t : Fin 4) : (pieceM j t).view.set = (pieceR j t).set :=
  (View.set_reshape _ _).trans (View.set_slice_whole _ _)
theorem set_slot (k : Fin 2) : (slotM k).view.set = (slotR k).set :=
  (View.set_reshape _ _).trans (View.set_slice_whole _ _)

theorem mem_tile (p : Dev nD) (t : Fin 4) (i : S4096x2048.Idx) :
    i ∈ (tM p t).view.set ↔ (i (0 : Fin 2)).val / 1024 = p.val ∧ (i (1 : Fin 2)).val / 512 = t.val := by
  rw [set_tile, Rect.mem_set_unit]
  refine Fin.forall_fin_two.trans ?_
  show (1024 * p.val ≤ (i (0 : Fin 2)).val ∧ (i (0 : Fin 2)).val < 1024 * p.val + 1024)
    ∧ (512 * t.val ≤ (i (1 : Fin 2)).val ∧ (i (1 : Fin 2)).val < 512 * t.val + 512) ↔ _
  constructor
  · rintro ⟨h0, h1⟩; constructor <;> omega
  · rintro ⟨h0, h1⟩; constructor <;> omega

theorem mem_piece (j : Fin 3) (t : Fin 4) (i : S3x1024x2048.Idx) :
    i ∈ (pieceM j t).view.set ↔ (i (0 : Fin 3)).val = j.val ∧ (i (2 : Fin 3)).val / 512 = t.val := by
  rw [set_piece, Rect.mem_set_unit]
  have hb : (i (1 : Fin 3)).val < 1024 := (i (1 : Fin 3)).isLt
  constructor
  · intro h
    have h0 : j.val ≤ (i (0 : Fin 3)).val ∧ (i (0 : Fin 3)).val < j.val + 1 := h 0
    have h2 : 512 * t.val ≤ (i (2 : Fin 3)).val ∧ (i (2 : Fin 3)).val < 512 * t.val + 512 := h 2
    constructor <;> omega
  · rintro ⟨h0, h2⟩ a
    have e0 : j.val ≤ (i (0 : Fin 3)).val ∧ (i (0 : Fin 3)).val < j.val + 1 := by omega
    have e1 : 0 ≤ (i (1 : Fin 3)).val ∧ (i (1 : Fin 3)).val < 0 + 1024 := by omega
    have e2 : 512 * t.val ≤ (i (2 : Fin 3)).val ∧ (i (2 : Fin 3)).val < 512 * t.val + 512 := by omega
    fin_cases a
    · exact e0
    · exact e1
    · exact e2

theorem mem_slot (k : Fin 2) (i : S2x4096x512.Idx) :
    i ∈ (slotM k).view.set ↔ (i (0 : Fin 3)).val = k.val := by
  rw [set_slot, Rect.mem_set_unit]
  have hb : (i (1 : Fin 3)).val < 4096 := (i (1 : Fin 3)).isLt
  have hc : (i (2 : Fin 3)).val < 512 := (i (2 : Fin 3)).isLt
  constructor
  · intro h
    have h0 : k.val ≤ (i (0 : Fin 3)).val ∧ (i (0 : Fin 3)).val < k.val + 1 := h 0
    omega
  · rintro h0 a
    have e0 : k.val ≤ (i (0 : Fin 3)).val ∧ (i (0 : Fin 3)).val < k.val + 1 := by omega
    have e1 : 0 ≤ (i (1 : Fin 3)).val ∧ (i (1 : Fin 3)).val < 0 + 4096 := by omega
    have e2 : 0 ≤ (i (2 : Fin 3)).val ∧ (i (2 : Fin 3)).val < 0 + 512 := by omega
    fin_cases a
    · exact e0
    · exact e1
    · exact e2

/-! ## The buffers as sums -/

/-- A buffer is the sum of the pieces of a partition. -/
theorem pts_parts {T : Type} [Fintype T] [DecidableEq T] (ℓ : Loc nD τ sig) (K : T → Finset (Idx ℓ)) (key : Idx ℓ → T → Prop)
    (hm : ∀ t i, i ∈ K t ↔ key i t) (h1 : ∀ i t t', key i t → key i t' → t = t') (h2 : ∀ i, ∃ t, key i t)
    {q : PosShare TreeShare} (f : Buf (Elt F) ℓ) :
    (ℓ ↦{q} f : sProp 𝕄) = bigSep Finset.univ fun t => ℓ ↦[K t]{q} f := by
  rw [← pointsTo_biUnion Finset.univ K fun t _ t' _ hne => Finset.disjoint_left.mpr fun i hi hi' =>
    hne (h1 i t t' ((hm t i).mp hi) ((hm t' i).mp hi'))]
  congr 1
  refine (Finset.eq_univ_iff_forall.mpr fun i => ?_).symm
  obtain ⟨t, ht⟩ := h2 i
  exact Finset.mem_biUnion.mpr ⟨t, Finset.mem_univ _, (hm t i).mpr ht⟩

theorem bigSep_dev (c : Dev nD) (Φ : Dev nD → sProp 𝕄) :
    bigSep Finset.univ Φ = iprop(Φ c ∗ bigSep Finset.univ fun j : Fin 3 => Φ (pe c j)) := by
  have hi : Function.Injective (pe c) := by
    have h : ∀ c : Dev nD, ∀ a b : Fin 3, pe c a = pe c b → a = b := by decide
    exact fun a b => h c a b
  have hu : (Finset.univ : Finset (Dev nD)) = insert c (Finset.univ.map ⟨pe c, hi⟩) := by
    revert c; decide
  have hn : c ∉ (Finset.univ.map ⟨pe c, hi⟩ : Finset (Dev nD)) := by
    revert c; decide
  rw [hu, bigSep_insert hn, bigSep_map]
  rfl

/-- The result's window as its tiles: the device's own row block and the three peers'. -/
theorem out_parts (c : Dev nD) (f : Buf (Elt F) ((c : Thread nD τ).loc cc0_stg1_0)) :
    (((c : Thread nD τ).loc cc0_stg1_0) ↦{fullShare} f : sProp 𝕄)
      = iprop((bigSep Finset.univ fun t : Fin 4 => tilePts c c t f)
        ∗ bigSep Finset.univ fun j : Fin 3 => bigSep Finset.univ fun t : Fin 4 => tilePts c (pe c j) t f) := by
  rw [pts_parts (T := Dev nD × Fin 4) ((c : Thread nD τ).loc cc0_stg1_0) (fun pt => (tM pt.1 pt.2).view.set)
    (fun (i : S4096x2048.Idx) pt => (i (0 : Fin 2)).val / 1024 = pt.1.val ∧ (i (1 : Fin 2)).val / 512 = pt.2.val)
    (fun pt i => mem_tile pt.1 pt.2 i)
    (fun i pt pt' h h' => Prod.ext (Fin.ext (h.1.symm.trans h'.1)) (Fin.ext (h.2.symm.trans h'.2)))
    (fun i => ⟨(⟨(i (0 : Fin 2)).val / 1024, Nat.div_lt_of_lt_mul (i (0 : Fin 2)).isLt⟩,
      ⟨(i (1 : Fin 2)).val / 512, Nat.div_lt_of_lt_mul (i (1 : Fin 2)).isLt⟩), rfl, rfl⟩) f,
    bigSep_univ_prod, bigSep_dev c]
  rfl

/-- The send buffer as its pieces. -/
theorem send_parts (c : Dev nD) (f : Buf (Elt F) ((c : Thread nD τ).loc cc0_scratch1)) :
    (((c : Thread nD τ).loc cc0_scratch1) ↦{fullShare} f : sProp 𝕄)
      = bigSep Finset.univ fun jt : JT => piecePts c jt.1 jt.2 f := by
  rw [pts_parts (T := JT) ((c : Thread nD τ).loc cc0_scratch1) (fun jt => (pieceM jt.1 jt.2).view.set)
    (fun (i : S3x1024x2048.Idx) jt => (i (0 : Fin 3)).val = jt.1.val ∧ (i (2 : Fin 3)).val / 512 = jt.2.val)
    (fun jt i => mem_piece jt.1 jt.2 i)
    (fun i pt pt' h h' => Prod.ext (Fin.ext (h.1.symm.trans h'.1)) (Fin.ext (h.2.symm.trans h'.2)))
    (fun i => ⟨(⟨(i (0 : Fin 3)).val, (i (0 : Fin 3)).isLt⟩,
      ⟨(i (2 : Fin 3)).val / 512, Nat.div_lt_of_lt_mul (i (2 : Fin 3)).isLt⟩), rfl, rfl⟩) f]
  rfl

/-- The weight buffer as its slots. -/
theorem slot_parts (c : Dev nD) (f : Buf (Elt F) ((c : Thread nD τ).loc cc0_scratch0)) :
    (((c : Thread nD τ).loc cc0_scratch0) ↦{fullShare} f : sProp 𝕄)
      = bigSep Finset.univ fun k : Fin 2 => slotPts c k f := by
  rw [pts_parts (T := Fin 2) ((c : Thread nD τ).loc cc0_scratch0) (fun k => (slotM k).view.set)
    (fun (i : S2x4096x512.Idx) k => (i (0 : Fin 3)).val = k.val)
    (fun k i => mem_slot k i)
    (fun i pt pt' h h' => Fin.ext (h.symm.trans h'))
    (fun i => ⟨⟨(i (0 : Fin 3)).val, (i (0 : Fin 3)).isLt⟩, rfl⟩) f]
  rfl

/-- Pieces of a partition, at any contents, are the buffer at some contents. -/
theorem parts_join {T : Type} [Fintype T] [DecidableEq T] (ℓ : Loc nD τ sig) (K : T → Finset (Idx ℓ)) (t₀ : T)
    (hP : ∀ f : Buf (Elt F) ℓ, (ℓ ↦{fullShare} f : sProp 𝕄) = bigSep Finset.univ fun t => ℓ ↦[K t]{fullShare} f)
    (hd : ∀ t t', t ≠ t' → Disjoint (K t) (K t')) :
    (bigSep Finset.univ fun t : T => iprop(∃ f : Buf (Elt F) ℓ, ℓ ↦[K t]{fullShare} f))
      ⊢ iprop(∃ f : Buf (Elt F) ℓ, ℓ ↦{fullShare} f : sProp 𝕄) := by
  refine (BI.bigSep_exists_pi Finset.univ fun (t : T) (f : Buf (Elt F) ℓ) => iprop(ℓ ↦[K t]{fullShare} f)).trans ?_
  iintro ⟨%fs, H⟩
  ihave H := (pointsTo_biUnion_join (q := fullShare) (ℓ := ℓ) Finset.univ K fs (fs t₀) fun t _ t' _ hne => hd t t' hne) $$ H
  icases H with ⟨%g, %hg, H⟩
  iexists g
  ihave H := (Entails.of_eq ((pointsTo_biUnion Finset.univ K (fun t _ t' _ hne => hd t t' hne)).trans (hP g).symm)) $$ H
  iexact H

theorem send_join (c : Dev nD) :
    (bigSep Finset.univ fun jt : JT => iprop(∃ f, piecePts (F := F) c jt.1 jt.2 f))
      ⊢ iprop(∃ f : Buf (Elt F) ((c : Thread nD τ).loc cc0_scratch1), ((c : Thread nD τ).loc cc0_scratch1) ↦{fullShare} f : sProp 𝕄) :=
  parts_join ((c : Thread nD τ).loc cc0_scratch1) (fun jt : JT => (pieceM jt.1 jt.2).view.set) (0, 0) (send_parts c)
    fun t t' hne => Finset.disjoint_left.mpr fun i hi hi' => hne (by
      have h := (mem_piece t.1 t.2 i).mp hi
      have h' := (mem_piece t'.1 t'.2 i).mp hi'
      exact Prod.ext (Fin.ext (h.1.symm.trans h'.1)) (Fin.ext (h.2.symm.trans h'.2)))

theorem slot_join (c : Dev nD) :
    (bigSep Finset.univ fun k : Fin 2 => iprop(∃ f, slotPts (F := F) c k f))
      ⊢ iprop(∃ f : Buf (Elt F) ((c : Thread nD τ).loc cc0_scratch0), ((c : Thread nD τ).loc cc0_scratch0) ↦{fullShare} f : sProp 𝕄) :=
  parts_join ((c : Thread nD τ).loc cc0_scratch0) (fun k : Fin 2 => (slotM k).view.set) 0 (slot_parts c)
    fun t t' hne => Finset.disjoint_left.mpr fun i hi hi' =>
      hne (Fin.ext (((mem_slot t i).mp hi).symm.trans ((mem_slot t' i).mp hi')))

end Cert.KernelIdealMM
-- ==== Proof.KernelIdealSteps.lean ====
/-
`Steps`: what each step of the chain takes and leaves.
-/
module

public import proofs.«01_k».proof.Proof.KernelIdealPieces
public import Idealize.ShloMosaic.Lib.Transfers

@[expose] public section

noncomputable section

namespace Cert.KernelIdealMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The rest of the program `P` on device `c` ends in `Q`. -/
abbrev WP (c : Dev nD) (P : Pr F) (Q : PUnit → sProp 𝕄) : sProp 𝕄 :=
  wp frame (wpE (defs₀ (F := F)) 𝒱₀ (c : Thread nD τ) none) Set.univ P Q

/-- What device `c` owes, whatever it has waited for. -/
def owesX (c : Dev nD) (O : CellTallies nD τ sig Unit) : sProp 𝕄 := iprop(∃ W, owes (c : Thread nD τ) O W)

/-! ## The weight slots -/

/-- A slot no copy writes, with the share of the weights its copies read. -/
def slotFree (c : Dev nD) (k : Fin 2) : sProp 𝕄 :=
  iprop(semVal ((c : Thread nD τ), .dma (wS k)) 0 ∗ (∃ f, slotPts c k f) ∗ wPts m c k)

/-- A slot a copy of the weight tile at `off` is under way to. -/
def slotBusy (c : Dev nD) (k : Fin 2) (off : Fin 2 → Nat) (h : WOffIn off) : sProp 𝕄 :=
  iprop(∃ f, Flight EC (c : Thread nD τ) (.dma (wS k)) () Nw
      iprop(slotPts c k ((slotM k).view.write (Elt F) f ((wtM off h).view.read (Elt F) (wv m c)) Finset.univ)
        ∗ ((wtM off h).view.loc (c : Thread nD τ) ↦[(wtM off h).view.set]{wShare k} wv m c))
    ∗ (((c : Thread nD τ).loc main_arg1) ↦[Finset.univ \ (wtM off h).view.set]{wShare k} wv m c))

theorem wPts_split (c : Dev nD) (k : Fin 2) (off : Fin 2 → Nat) (h : WOffIn off) :
    (wPts m c k : sProp 𝕄) ⊣⊢ iprop(((wtM off h).view.loc (c : Thread nD τ) ↦[(wtM off h).view.set]{wShare k} wv m c)
      ∗ (((c : Thread nD τ).loc main_arg1) ↦[Finset.univ \ (wtM off h).view.set]{wShare k} wv m c)) :=
  pointsTo_split_subset (ℓ := (c : Thread nD τ).loc main_arg1) (Finset.subset_univ _)

theorem wp_wStart (c : Dev nD) (k : Fin 2) (off : Fin 2 → Nat) (h : WOffIn off) (P : Pr F) (Q : PUnit → sProp 𝕄) :
    slotFree m c k ⊢ iprop((slotBusy m c k off h -∗ WP c P Q) -∗ WP c (wStart k off h P) Q) := by
  unfold slotFree slotBusy wStart slotPts
  iintro ⟨Hv, ⟨%f, Hs⟩, Hw⟩ Hk
  ihave Hw := (wPts_split m c k off h).1 $$ Hw
  icases Hw with ⟨Hw, Hr⟩
  iapply (wp_dmaLocal EC 𝒱₀ (c : Thread nD τ) none (src := wtM off h) (dst := slotM k) (sm := .dma (wS k)) (via := ReadAs.same)
    () Nw rfl Nw_pos (Finset.Subset.refl _)) $$ [Hv Hs Hw]
  · isplitl [Hw]; · iexact Hw
    isplitl [Hs]; · iexact Hs
    iexact Hv
  iintro HF
  iapply Hk
  iexists f
  isplitl [HF]; · iexact HF
  iexact Hr

theorem wp_mul (c : Dev nD) (k : Fin 2) (off : Fin 2 → Nat) (h : WOffIn off) (l : List JT)
    (P : Vec F S1x4096x512 .f32 → Vec F S1024x4096 .bf16 → Pr F) (Q : PUnit → sProp 𝕄) :
    iprop(slotBusy m c k off h ∗ xPts m ρ c ∗ owesX c (oweL c l) ∗ levAts L lv)
      ⊢ iprop((∀ (w : Vec F S1x4096x512 .f32) (x : Vec F S1024x4096 .bf16),
            ⌜tilePay w x = tileVal ((wtM off h).view.read (Elt F) (wv m c)) (xv m ρ c)⌝
            -∗ (slotFree m c k ∗ xPts m ρ c ∗ owesX c (oweL c l)) -∗ WP c (P w x) Q)
          -∗ WP c (mulOp k off h P) Q) := by
  unfold slotFree slotBusy mulOp owesX
  iintro ⟨⟨%f, HF, Hr⟩, Hx, ⟨%W, HO⟩, #Hlev⟩ Hk
  iapply (wp_waitLocalO EC 𝒱₀ (c : Thread nD τ) none () (credit_slot k)) $$ [HF HO]
  · isplitl [HF]; · iexact HF
    isplitl [HO]; · iexact HO
    iapply (mayWait_send c _ (lv_wS c k) l); iexact Hlev
  iintro ⟨⟨Hs, Hw⟩, Hv, HO⟩
  ihave Hw := (wPts_split m c k off h).2 $$ [Hw Hr]
  · isplitl [Hw]; · iexact Hw
    iexact Hr
  unfold slotPts xPts
  iapply (wp_load_rect 𝒱₀ (c : Thread nD τ) none Set.univ (m := bM) (r := slotR k) (S := (slotM k).view.set) (q := fullShare)
    (by rw [set_slot, View.set_slice_whole])) $$ Hs
  iintro Hs
  iapply (wp_load 𝒱₀ (c : Thread nD τ) none Set.univ (m := xM) (Finset.subset_univ _)) $$ Hx
  iintro Hx
  rw [x_read]
  iapply Hk $$ %_ %_ [] [Hs Hw Hv Hx HO]
  · ipureintro
    exact tilePay_eq _ _ _ (slot_read k f _)
  isplitl [Hs Hw Hv]
  · isplitl [Hv]; · iexact Hv
    isplitl [Hs]; · iexists _; iexact Hs
    iexact Hw
  isplitl [Hx]; · iexact Hx
  iexists _; iexact HO

/-! ## The handshake -/

section Names
variable (K : Dev nD × CK → ℕ)

/-- What a device signals the barrier cell of its peer `pe c j` with. -/
def sigG (c : Dev nD) (j : Fin 3) : sProp 𝕄 :=
  iprop(cellInv ER (Rd m ρ) (K (pe c j, none)) (barCell (pe c j)) ∗ reached ER (barCell (pe c j)) 0
    ∗ dutyTok ER (barCell (pe c j)) 0 j)

theorem wp_sig (c : Dev nD) (j : Fin 3) (dev : Nat) (hdev : dev < nD) (he : (⟨dev, hdev⟩ : Dev nD) = pe c j)
    (O : CellTallies nD τ sig Unit) (P : Pr F) (Q : PUnit → sProp 𝕄) :
    iprop(sigG m ρ K c j ∗ (bigSep Finset.univ fun t : Fin 4 => iprop(∃ f, tilePts c (pe c j) t f))
        ∗ owesX c (O + tallyAt (barCell (pe c j)) () 1))
      ⊢ iprop((owesX c O -∗ WP c P Q) -∗ WP c (sigOp dev hdev P) Q) := by
  unfold sigG owesX sigOp
  rw [he]
  iintro ⟨⟨#HI, #Hr, Htok⟩, Ht, ⟨%W, HO⟩⟩ Hk
  iapply (Rounds.wp_signal 𝒱₀ ER (Rd m ρ) (c : Thread nD τ) none (dst := (pe c j : Thread nD τ)) (κ := K (pe c j, none))
      (d := j) (by rw [duties_bar]; exact Finset.mem_univ _) ((amount_bar m ρ (pe c j) j).trans (by decide)) () O rfl)
    $$ [HO Htok Ht]
  · isplitr; · iexact HI
    isplitl [HO]; · iexact HO
    isplitl [Htok]; · iexact Htok
    isplitl [Ht]
    · rw [payload_bar]; unfold barPay; rw [qe_pe]; iexact Ht
    · iexact Hr
  iintro HO
  iapply Hk
  iexists _; iexact HO

/-- What a device waits on its own barrier cell with. -/
def barG (c : Dev nD) : sProp 𝕄 :=
  iprop(cellInv ER (Rd m ρ) (K (c, none)) (barCell c) ∗ atPos ER (barCell c) 0 ∅ 0 ∗ cred (tallyAt (barCell c) () 3))

theorem wp_bar (c : Dev nD) (P : Pr F) (Q : PUnit → sProp 𝕄) :
    iprop(barG m ρ K c ∗ owesX c (O₃ c) ∗ levAts L lv)
      ⊢ iprop(((semVal (barCell c) 0 ∗ owesX c (O₃ c)
            ∗ bigSep Finset.univ fun j : Fin 3 => bigSep Finset.univ fun t : Fin 4 => iprop(∃ f, tilePts (pe c j) c t f))
            -∗ WP c P Q) -∗ WP c (barOp P) Q) := by
  unfold barG owesX barOp
  iintro ⟨⟨#HI, Hat, Hc⟩, ⟨%W, HO⟩, #Hlev⟩ Hk
  iapply (Rounds.wp_wait_rest_token 𝒱₀ ER (Rd m ρ) (c : Thread nD τ) none (κ := K (c, none))
      (wpE_semWait_eq 𝒱₀ (c : Thread nD τ) none Set.univ) (Set.mem_univ _) () (O := O₃ c) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (Rd m ρ) (Set.mem_univ (K (c, none))) (fun h => h) (R := 0 + 1) (duties_later m ρ (barCell c))) $$ [Hat] with Hz
  · isplitr; · iexact HI
    iexact Hat
  iapply Hk
  isplitl [Hz]; · iexact Hz
  isplitl [HO]; · iexists _; iexact HO
  ihave Hp := (Entails.of_eq (bigSep_univ_equiv Fin.revPerm (fun j : Fin 3 => (barPay (F := F) c j : sProp 𝕄)))) $$ Hp
  have e : (bigSep Finset.univ fun j : Fin 3 => (barPay (F := F) c (Fin.revPerm j) : sProp 𝕄))
      = bigSep Finset.univ fun j : Fin 3 => bigSep Finset.univ fun t : Fin 4 => iprop(∃ f, tilePts (pe c j) c t f) :=
    bigSep_congr fun j _ => by
      show barPay c (rv j) = _
      unfold barPay; rw [qe_rv]
  ihave Hp := (Entails.of_eq e) $$ Hp
  iexact Hp

/-! ## The sends -/

/-- What a device sends with: the two cells, their rounds and duties. -/
def sendG (c : Dev nD) (jt : JT) : sProp 𝕄 :=
  iprop(cellInv ER (Rd m ρ) (K (c, some (false, jt))) (sendCell c jt)
    ∗ cellInv ER (Rd m ρ) (K (pe c jt.1, some (true, jt))) (recvCell (pe c jt.1) jt)
    ∗ reached ER (sendCell c jt) 0 ∗ reached ER (recvCell (pe c jt.1) jt) 0
    ∗ dutyTok ER (sendCell c jt) 0 0 ∗ dutyTok ER (recvCell (pe c jt.1) jt) 0 0)

/-- That with the piece read and the tile written. -/
def sendRes (c : Dev nD) (jt : JT) : sProp 𝕄 :=
  iprop(sendG m ρ K c jt ∗ (∃ f, piecePts c jt.1 jt.2 f) ∗ (∃ f, tilePts (pe c jt.1) c jt.2 f))

set_option maxHeartbeats 800000 in
/-- The transfer of a piece holding the tile `V` to the peer `n`. -/
theorem wp_sendTile (c : Dev nD) (j : Fin 3) (t : Fin 4) (h : OffIn (toff c t)) (n : Dev nD) (hn : n = pe c j)
    (f : (cc0_scratch1 : Ref sig .tc).ty.Contents (Elt F)) (g : (cc0_stg1_0 : Ref sig .tc).ty.Contents (Elt F))
    {V : Vec F S1024x512 .bf16} (hf : (pieceM j t).view.read (Elt F) f = V) (hV : V = tileOf m ρ c (pe c j) t)
    (l : List JT) (W : Waits sig Unit) {hsc : (tileM (toff c t) h).view.ref.isScScratch = false}
    {hsrc : (pieceM j t).view.WordExact} {hdst : (tileM (toff c t) h).view.WordExact}
    {hsem : DmaTarget.Typed .vmem (.dma (rS j t)) (.remote (Dev.tc n : Thread nD τ) (tileM (toff c t) h) (.dma (sS j t)) hsc)}
    (P : PUnit → Pr F) (Q : PUnit → sProp 𝕄) :
    iprop(cellInv ER (Rd m ρ) (K (c, some (false, (j, t)))) (sendCell c (j, t))
        ∗ cellInv ER (Rd m ρ) (K (pe c j, some (true, (j, t)))) (recvCell (pe c j) (j, t))
        ∗ piecePts c j t f ∗ tilePts (pe c j) c t g
        ∗ owes (c : Thread nD τ) (oweL c ((j, t) :: l)) W
        ∗ dutyTok ER (sendCell c (j, t)) 0 0 ∗ reached ER (sendCell c (j, t)) 0
        ∗ dutyTok ER (recvCell (pe c j) (j, t)) 0 0 ∗ reached ER (recvCell (pe c j) (j, t)) 0)
      ⊢ iprop(((cred (tallyAt (sendCell c (j, t)) () N) ∗ owes (c : Thread nD τ) (oweL c l) W) -∗ WP c (P ⟨⟩) Q)
          -∗ WP c (.op (.enqueueDma (pieceM j t) (.remote (Dev.tc n : Thread nD τ) (tileM (toff c t) h) (.dma (sS j t)) hsc)
              (.dma (rS j t)) hsrc hdst hsem) P) Q) := by
  subst hn
  unfold piecePts
  unfold tilePts
  have hd1 : (0 : Fin 3) ∈ (Rd (F := F) m ρ).duties ((c : Thread nD τ), .dma (sS j t)) 0 :=
    (duties_send m ρ c (j, t)).symm ▸ Finset.mem_singleton_self _
  have hd2 : (0 : Fin 3) ∈ (Rd (F := F) m ρ).duties ((pe c j : Thread nD τ), .dma (rS j t)) 0 :=
    (duties_recv m ρ (pe c j) (j, t)).symm ▸ Finset.mem_singleton_self _
  have hp1 : (((pieceM j t).view.loc (c : Thread nD τ)) ↦[(pieceM j t).view.set]{fullShare} f : sProp 𝕄)
      ⊢ (Rd m ρ).payload ((c : Thread nD τ), .dma (sS j t)) 0 0 :=
    (show (piecePts c j t f : sProp 𝕄) ⊢ sendPay c (j, t) by unfold sendPay; iintro H; iexists f; iexact H).trans
      (Entails.of_eq (payload_send m ρ c (j, t) 0).symm)
  have hp2 : (((tM c t).view.loc (pe c j : Thread nD τ)) ↦[(tM c t).view.set]{fullShare}
        ((tM c t).view.write (Elt F) g ((pieceM j t).view.read (Elt F) f) Finset.univ) : sProp 𝕄)
      ⊢ (Rd m ρ).payload ((pe c j : Thread nD τ), .dma (rS j t)) 0 0 := by
    rw [hf]
    refine Entails.of_eq ((tilePts_write m ρ (pe c j) c t g V hV).trans (Eq.trans ?_ (payload_recv m ρ (pe c j) (j, t) 0).symm))
    show tilePts _ c _ _ = tilePts _ (qe (pe c j) j) _ _
    rw [qe_pe]
  have a1 : (Rd (F := F) m ρ).amount ((c : Thread nD τ), .dma (sS j t)) 0 0 = N := amount_send m ρ c (j, t) 0
  have a2 : (Rd (F := F) m ρ).amount ((pe c j : Thread nD τ), .dma (rS j t)) 0 0 = N := amount_recv m ρ (pe c j) (j, t) 0
  have hN : (tM c t).view.amount (.dma (rS j t)) = N := rfl
  have hO : oweL c ((j, t) :: l) = oweL c l + tallyAt ((pe c j : Thread nD τ), .dma (rS j t)) () N := rfl
  exact Rounds.wp_send_pointsTo 𝒱₀ ER (Rd m ρ) (c : Thread nD τ) none (c' := (pe c j : Thread nD τ)) (src := pieceM j t) (dst := tM c t) (κ₁ := K (c, some (false, (j, t))))
    (κ₂ := K (pe c j, some (true, (j, t)))) (r₁ := 0) (r₂ := 0) (d₁ := 0) (d₂ := 0) (fs := f) (fd := g)
    hd1 hd2 () () N hN a1 a2 (oweL c l) hO (W := W) hp1 hp2

theorem wp_sendStep (c : Dev nD) (k : Fin 2) (j : Fin 3) (t : Fin 4) (offw : Fin 2 → Nat) (hw : WOffIn offw) (dev : Nat)
    (hdev : dev < nD) (off : Fin 2 → Nat) (h : OffIn off) (hwd : TWords off h)
    (ew : offw = woff (pe c j) t) (ed : (⟨dev, hdev⟩ : Dev nD) = pe c j) (eo : off = toff c t) (l : List JT)
    (P : Pr F) (Q : PUnit → sProp 𝕄) :
    iprop(sendRes m ρ K c (j, t) ∗ slotBusy m c k offw hw ∗ xPts m ρ c ∗ owesX c (oweL c ((j, t) :: l)) ∗ levAts L lv)
      ⊢ iprop(((slotFree m c k ∗ xPts m ρ c ∗ owesX c (oweL c l) ∗ cred (tallyAt (sendCell c (j, t)) () N)) -∗ WP c P Q)
          -∗ WP c (sendOp k j t offw hw dev hdev off h hwd P) Q) := by
  subst ew eo
  obtain rfl : dev = (pe c j).val := congrArg Fin.val ed
  unfold sendOp
  iintro ⟨Hres, Hbusy, Hx, HO, #Hlev⟩ Hk
  iapply (wp_mul m ρ c k _ hw ((j, t) :: l) _ Q) $$ [Hbusy Hx HO]
  · isplitl [Hbusy]; · iexact Hbusy
    isplitl [Hx]; · iexact Hx
    isplitl [HO]; · iexact HO
    iexact Hlev
  iintro %w %x %hp ⟨Hfree, Hx, HO⟩
  unfold sendRes sendG piecePts owesX
  icases Hres with ⟨⟨#HIs, #HIr, #Hrs, #Hrr, Hts, Htr⟩, ⟨%f, Hp⟩, ⟨%g, Ht⟩⟩
  icases HO with ⟨%W, HO⟩
  iapply (wp_load_rect 𝒱₀ (c : Thread nD τ) none Set.univ (m := sM) (r := pieceR j t) (S := (pieceM j t).view.set) (q := fullShare)
    (by rw [set_piece, View.set_slice_whole])) $$ Hp
  iintro Hp
  iapply (wp_store 𝒱₀ (c : Thread nD τ) none Set.univ (m := sM) (r := pieceR j t) (Mk := Finset.univ) (S := (pieceM j t).view.set)
    (by rw [View.setOn_univ, set_piece, View.set_slice_whole])) $$ Hp
  iintro Hp
  unfold tilePts
  iapply (wp_sendTile m ρ K c j t h _ rfl _ g (piece_read j t f (tilePay w x)) hp l W) $$ [Hp Ht HO Hts Htr]
  · isplitr; · iexact HIs
    isplitr; · iexact HIr
    isplitl [Hp]; · unfold piecePts; iexact Hp
    isplitl [Ht]; · unfold tilePts; iexact Ht
    isplitl [HO]; · iexact HO
    isplitl [Hts]; · iexact Hts
    isplitr; · iexact Hrs
    isplitl [Htr]; · iexact Htr
    iexact Hrr
  iintro ⟨Hc, HO⟩
  iapply Hk
  isplitl [Hfree]; · iexact Hfree
  isplitl [Hx]; · iexact Hx
  isplitl [HO]; · iexists _; iexact HO
  iexact Hc

/-! ## The own rows -/

theorem wp_ownStep (c : Dev nD) (k : Fin 2) (t : Fin 4) (offw : Fin 2 → Nat) (hw : WOffIn offw)
    (off : Fin 2 → Nat) (h : OffIn off) (hp : TPacked off h)
    (ew : offw = woff c t) (eo : off = toff c t) (P : Pr F) (Q : PUnit → sProp 𝕄) :
    iprop((∃ f, tilePts c c t f) ∗ slotBusy m c k offw hw ∗ xPts m ρ c ∗ owesX c (oweL c []) ∗ levAts L lv)
      ⊢ iprop(((slotFree m c k ∗ xPts m ρ c ∗ owesX c (oweL c []) ∗ tilePts c c t (outAt m ρ c)) -∗ WP c P Q)
          -∗ WP c (ownOp k offw hw off h hp P) Q) := by
  subst ew eo
  unfold ownOp
  iintro ⟨⟨%f, Ht⟩, Hbusy, Hx, HO, #Hlev⟩ Hk
  iapply (wp_mul m ρ c k _ hw [] _ Q) $$ [Hbusy Hx HO]
  · isplitl [Hbusy]; · iexact Hbusy
    isplitl [Hx]; · iexact Hx
    isplitl [HO]; · iexact HO
    iexact Hlev
  iintro %w %x %hp ⟨Hfree, Hx, HO⟩
  unfold tilePts
  iapply (wp_load_rect 𝒱₀ (c : Thread nD τ) none Set.univ (m := oM) (r := tileR (toff c t) h) (S := (tM c t).view.set) (q := fullShare)
    (Finset.Subset.refl _)) $$ Ht
  iintro Ht
  iapply (wp_store 𝒱₀ (c : Thread nD τ) none Set.univ (m := oM) (r := tileR (toff c t) h) (Mk := Finset.univ) (S := (tM c t).view.set)
    (by rw [View.setOn_univ])) $$ Ht
  iintro Ht
  iapply Hk
  isplitl [Hfree]; · iexact Hfree
  isplitl [Hx]; · iexact Hx
  isplitl [HO]; · iexact HO
  have e := tilePts_write m ρ c c t f _ hp
  unfold tilePts at e
  ihave Ht := (Entails.of_eq e) $$ Ht
  iexact Ht

/-! ## The final waits -/

/-- What a device waits for an arriving tile with. -/
def recvG (c : Dev nD) (jt : JT) : sProp 𝕄 :=
  iprop(cellInv ER (Rd m ρ) (K (c, some (true, jt))) (recvCell c jt) ∗ atPos ER (recvCell c jt) 0 ∅ 0
    ∗ cred (tallyAt (recvCell c jt) () N))
/-- What it leaves. -/
def recvDone (c : Dev nD) (jt : JT) : sProp 𝕄 := iprop(semVal (recvCell c jt) 0 ∗ recvPay m ρ c jt)
/-- What a device waits for a send's piece with. -/
def sentG (c : Dev nD) (jt : JT) : sProp 𝕄 :=
  iprop(cellInv ER (Rd m ρ) (K (c, some (false, jt))) (sendCell c jt) ∗ atPos ER (sendCell c jt) 0 ∅ 0
    ∗ cred (tallyAt (sendCell c jt) () N))
/-- What it leaves. -/
def sentDone (c : Dev nD) (jt : JT) : sProp 𝕄 := iprop(semVal (sendCell c jt) 0 ∗ sendPay c jt)

theorem wp_recvStep (c : Dev nD) (j : Fin 3) (t : Fin 4) (off : Fin 2 → Nat) (h : OffIn off) (hwd : TWords off h)
    (P : Pr F) (Q : PUnit → sProp 𝕄) :
    iprop(recvG m ρ K c (j, t) ∗ owesX c 0)
      ⊢ iprop(((recvDone m ρ c (j, t) ∗ owesX c 0) -∗ WP c P Q) -∗ WP c (recvOp j t off h hwd P) Q) := by
  unfold recvG recvDone owesX recvOp
  iintro ⟨⟨#HI, Hat, Hc⟩, ⟨%W, HO⟩⟩ Hk
  iapply (Rounds.wp_wait_rest_token 𝒱₀ ER (Rd m ρ) (c : Thread nD τ) none (κ := K (c, some (true, (j, t))))
      (wpE_waitDma2_eq 𝒱₀ (c : Thread nD τ) none Set.univ) (Set.mem_univ _) () (O := 0) (W := W) (R := 0) (m := 0) (T := ∅)
      (by rw [Nat.zero_add]; exact (expect_recv m ρ c (j, t)).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m ρ c (j, t))) $$ Hpay
  imod (Rounds.cell_close ER (Rd m ρ) (Set.mem_univ (K (c, some (true, (j, t))))) (fun h => h) (R := 0 + 1)
    (duties_later m ρ (recvCell c (j, t)))) $$ [Hat] with Hz
  · isplitr; · iexact HI
    iexact Hat
  iapply Hk
  isplitl [Hz Hp]
  · isplitl [Hz]; · iexact Hz
    iexact Hp
  iexists _; iexact HO

theorem wp_sentStep (c : Dev nD) (j : Fin 3) (t : Fin 4) (off : Fin 2 → Nat) (h : OffIn off) (hwd : TWords off h)
    (P : Pr F) (Q : PUnit → sProp 𝕄) :
    iprop(sentG m ρ K c (j, t) ∗ owesX c 0)
      ⊢ iprop(((sentDone c (j, t) ∗ owesX c 0) -∗ WP c P Q) -∗ WP c (sentOp j t off h hwd P) Q) := by
  unfold sentG sentDone owesX sentOp
  iintro ⟨⟨#HI, Hat, Hc⟩, ⟨%W, HO⟩⟩ Hk
  iapply (Rounds.wp_wait_rest_token 𝒱₀ ER (Rd m ρ) (c : Thread nD τ) none (κ := K (c, some (false, (j, t))))
      (wpE_waitDma2_eq 𝒱₀ (c : Thread nD τ) none Set.univ) (Set.mem_univ _) () (O := 0) (W := W) (R := 0) (m := 0) (T := ∅)
      (by rw [Nat.zero_add]; exact (expect_send m ρ c (j, t)).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m ρ c (j, t))) $$ Hpay
  imod (Rounds.cell_close ER (Rd m ρ) (Set.mem_univ (K (c, some (false, (j, t))))) (fun h => h) (R := 0 + 1)
    (duties_later m ρ (sendCell c (j, t)))) $$ [Hat] with Hz
  · isplitr; · iexact HI
    iexact Hat
  iapply Hk
  isplitl [Hz Hp]
  · isplitl [Hz]; · iexact Hz
    iexact Hp
  iexists _; iexact HO

end Names

end Cert.KernelIdealMM
-- ==== Proof.KernelIdealChain.lean ====
/-
`Chain`: the sections of the chain, from what they take to what they leave.
-/
module

public import proofs.«01_k».proof.Proof.KernelIdealSteps

@[expose] public section

noncomputable section

namespace Cert.KernelIdealMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_four (Φ : Fin 4 → sProp 𝕄) : bigSep Finset.univ Φ = iprop(Φ 0 ∗ Φ 1 ∗ Φ 2 ∗ Φ 3) :=
  Idealize.SL.BI.bigSep_univ_eq_bigSepL [0, 1, 2, 3] (by decide) (by decide) Φ
theorem bigSep_three (Φ : Fin 3 → sProp 𝕄) : bigSep Finset.univ Φ = iprop(Φ 0 ∗ Φ 1 ∗ Φ 2) :=
  Idealize.SL.BI.bigSep_univ_eq_bigSepL [0, 1, 2] (by decide) (by decide) Φ
theorem bigSep_pair (Φ : Fin 2 → sProp 𝕄) : bigSep Finset.univ Φ = iprop(Φ 0 ∗ Φ 1) :=
  Idealize.SL.BI.bigSep_univ_eq_bigSepL [0, 1] (by decide) (by decide) Φ

/-! ## The offsets and the devices -/

theorem offw_eq (c : Dev nD) (j : Fin 3) (t : Fin 4) :
    k0_off1 c (BitVec.ofNat 32 (j.val + 1)) (BitVec.ofNat 32 (512 * t.val)) = woff (pe c j) t := by
  unfold woff; revert c j t; decide +kernel
theorem offo_eq (c : Dev nD) (t : Fin 4) : k0_off1 c 0#32 (BitVec.ofNat 32 (512 * t.val)) = woff c t := by
  unfold woff; revert c t; decide +kernel

section Names
variable (K : Dev nD × CK → ℕ)

/-- The three sends of a column tile: slot `k` is busy with the first weight tile at the start, slot `k'` with the next
    section's at the end. -/
theorem wp_triple (c : Dev nD) (k k' : Fin 2) (t : Fin 4)
    (o2 : Fin 2 → Nat) (h2 : WOffIn o2) (e2 : o2 = woff (pe c 1) t)
    (o1 : Fin 2 → Nat) (h1 : WOffIn o1) (e1 : o1 = woff (pe c 0) t)
    (o3 : Fin 2 → Nat) (h3 : WOffIn o3) (e3 : o3 = woff (pe c 2) t)
    (on : Fin 2 → Nat) (hn : WOffIn on)
    (d2 : Nat) (l2 : d2 < nD) (v2 : (⟨d2, l2⟩ : Dev nD) = pe c 1)
    (d1 : Nat) (l1 : d1 < nD) (v1 : (⟨d1, l1⟩ : Dev nD) = pe c 0)
    (d3 : Nat) (l3 : d3 < nD) (v3 : (⟨d3, l3⟩ : Dev nD) = pe c 2)
    (off : Fin 2 → Nat) (h : OffIn off) (hwd : TWords off h) (eo : off = toff c t) (l : List JT)
    (P : Pr F) (Q : PUnit → sProp 𝕄) :
    iprop(sendRes m ρ K c (1, t) ∗ sendRes m ρ K c (0, t) ∗ sendRes m ρ K c (2, t)
        ∗ slotBusy m c k o2 h2 ∗ slotFree m c k' ∗ xPts m ρ c
        ∗ owesX c (oweL c ((1, t) :: (0, t) :: (2, t) :: l)) ∗ levAts L lv)
      ⊢ iprop(((slotFree m c k ∗ slotBusy m c k' on hn ∗ xPts m ρ c ∗ owesX c (oweL c l)
            ∗ cred (tallyAt (sendCell c (1, t)) () N) ∗ cred (tallyAt (sendCell c (0, t)) () N)
            ∗ cred (tallyAt (sendCell c (2, t)) () N)) -∗ WP c P Q)
          -∗ WP c (wStart k' o1 h1 <| sendOp k 1 t o2 h2 d2 l2 off h hwd <| wStart k o3 h3 <|
            sendOp k' 0 t o1 h1 d1 l1 off h hwd <| wStart k' on hn <| sendOp k 2 t o3 h3 d3 l3 off h hwd P) Q) := by
  iintro ⟨HR1, HR0, HR2, Hb, Hf, Hx, HO, #Hlev⟩ Hk
  iapply (wp_wStart m c k' o1 h1 _ Q) $$ Hf
  iintro Hb'
  iapply (wp_sendStep m ρ K c k 1 t o2 h2 d2 l2 off h hwd e2 v2 eo ((0, t) :: (2, t) :: l) _ Q) $$ [HR1 Hb Hx HO]
  · isplitl [HR1]; · iexact HR1
    isplitl [Hb]; · iexact Hb
    isplitl [Hx]; · iexact Hx
    isplitl [HO]; · iexact HO
    iexact Hlev
  iintro ⟨Hf, Hx, HO, Hc1⟩
  irename Hb' => Hb
  iapply (wp_wStart m c k o3 h3 _ Q) $$ Hf
  iintro Hb'
  iapply (wp_sendStep m ρ K c k' 0 t o1 h1 d1 l1 off h hwd e1 v1 eo ((2, t) :: l) _ Q) $$ [HR0 Hb Hx HO]
  · isplitl [HR0]; · iexact HR0
    isplitl [Hb]; · iexact Hb
    isplitl [Hx]; · iexact Hx
    isplitl [HO]; · iexact HO
    iexact Hlev
  iintro ⟨Hf, Hx, HO, Hc0⟩
  irename Hb' => Hb
  iapply (wp_wStart m c k' on hn _ Q) $$ Hf
  iintro Hb'
  iapply (wp_sendStep m ρ K c k 2 t o3 h3 d3 l3 off h hwd e3 v3 eo l _ Q) $$ [HR2 Hb Hx HO]
  · isplitl [HR2]; · iexact HR2
    isplitl [Hb]; · iexact Hb
    isplitl [Hx]; · iexact Hx
    isplitl [HO]; · iexact HO
    iexact Hlev
  iintro ⟨Hf, Hx, HO, Hc2⟩
  iapply Hk
  isplitl [Hf]; · iexact Hf
  isplitl [Hb']; · iexact Hb'
  isplitl [Hx]; · iexact Hx
  isplitl [HO]; · iexact HO
  isplitl [Hc1]; · iexact Hc1
  isplitl [Hc0]; · iexact Hc0
  iexact Hc2

/-- The device's own rows: slot 0 is busy with the first weight tile at the start. -/
theorem wp_own (c : Dev nD) (P : Pr F) (Q : PUnit → sProp 𝕄) :
    iprop((bigSep Finset.univ fun t : Fin 4 => iprop(∃ f, tilePts c c t f))
        ∗ slotBusy m c 0 (k0_off1 c 0#32 0#32) (k0_off1_inb c 0 0) ∗ slotFree m c 1 ∗ xPts m ρ c
        ∗ owesX c (oweL c []) ∗ levAts L lv)
      ⊢ iprop(((slotFree m c 0 ∗ slotFree m c 1 ∗ xPts m ρ c ∗ owesX c (oweL c [])
            ∗ bigSep Finset.univ fun t : Fin 4 => tilePts c c t (outAt m ρ c)) -∗ WP c P Q)
          -∗ WP c (chainOwn c P) Q) := by
  rw [bigSep_four, bigSep_four]
  unfold chainOwn
  iintro ⟨⟨HT0, HT1, HT2, HT3⟩, Hb, Hf, Hx, HO, #Hlev⟩ Hk
  iapply (wp_wStart m c 1 _ _ _ Q) $$ Hf
  iintro Hb'
  iapply (wp_ownStep m ρ c 0 0 _ _ _ (k0_off6_inb c) _ (offo_eq c 0) (k0_off6_eq c) _ Q) $$ [HT0 Hb Hx HO]
  · isplitl [HT0]; · iexact HT0
    isplitl [Hb]; · iexact Hb
    isplitl [Hx]; · iexact Hx
    isplitl [HO]; · iexact HO
    iexact Hlev
  iintro ⟨Hf, Hx, HO, HT0⟩
  irename Hb' => Hb
  iapply (wp_wStart m c 0 _ _ _ Q) $$ Hf
  iintro Hb'
  iapply (wp_ownStep m ρ c 1 1 _ _ _ (k0_off7_inb c) _ (offo_eq c 1) (k0_off7_eq c) _ Q) $$ [HT1 Hb Hx HO]
  · isplitl [HT1]; · iexact HT1
    isplitl [Hb]; · iexact Hb
    isplitl [Hx]; · iexact Hx
    isplitl [HO]; · iexact HO
    iexact Hlev
  iintro ⟨Hf, Hx, HO, HT1⟩
  irename Hb' => Hb
  iapply (wp_wStart m c 1 _ _ _ Q) $$ Hf
  iintro Hb'
  iapply (wp_ownStep m ρ c 0 2 _ _ _ (k0_off8_inb c) _ (offo_eq c 2) (k0_off8_eq c) _ Q) $$ [HT2 Hb Hx HO]
  · isplitl [HT2]; · iexact HT2
    isplitl [Hb]; · iexact Hb
    isplitl [Hx]; · iexact Hx
    isplitl [HO]; · iexact HO
    iexact Hlev
  iintro ⟨Hf, Hx, HO, HT2⟩
  irename Hb' => Hb
  irename Hf => Hg
  iapply (wp_ownStep m ρ c 1 3 _ _ _ (k0_off9_inb c) _ (offo_eq c 3) (k0_off9_eq c) _ Q) $$ [HT3 Hb Hx HO]
  · isplitl [HT3]; · iexact HT3
    isplitl [Hb]; · iexact Hb
    isplitl [Hx]; · iexact Hx
    isplitl [HO]; · iexact HO
    iexact Hlev
  iintro ⟨Hf, Hx, HO, HT3⟩
  iapply Hk
  isplitl [Hg]; · iexact Hg
  isplitl [Hf]; · iexact Hf
  isplitl [Hx]; · iexact Hx
  isplitl [HO]; · iexact HO
  isplitl [HT0]; · iexact HT0
  isplitl [HT1]; · iexact HT1
  isplitl [HT2]; · iexact HT2
  iexact HT3

/-- The waits for the four tiles of a peer. -/
theorem wp_recvFour (c : Dev nD) (j : Fin 3)
    (o0 : Fin 2 → Nat) (h0 : OffIn o0) (w0 : TWords o0 h0) (o1 : Fin 2 → Nat) (h1 : OffIn o1) (w1 : TWords o1 h1) (o2 : Fin 2 → Nat) (h2 : OffIn o2) (w2 : TWords o2 h2) (o3 : Fin 2 → Nat) (h3 : OffIn o3) (w3 : TWords o3 h3)
    (P : Pr F) (Q : PUnit → sProp 𝕄) :
    iprop((bigSep Finset.univ fun t : Fin 4 => recvG m ρ K c (j, t)) ∗ owesX c 0)
      ⊢ iprop((((bigSep Finset.univ fun t : Fin 4 => recvDone m ρ c (j, t)) ∗ owesX c 0) -∗ WP c P Q)
          -∗ WP c (recvOp j 0 o0 h0 w0 <| recvOp j 1 o1 h1 w1 <| recvOp j 2 o2 h2 w2 <| recvOp j 3 o3 h3 w3 <| P) Q) := by
  rw [bigSep_four, bigSep_four]
  iintro ⟨⟨HG0, HG1, HG2, HG3⟩, HO⟩ Hk
  iapply (wp_recvStep m ρ K c j 0 o0 h0 w0 _ Q) $$ [HG0 HO]
  · isplitl [HG0]; · iexact HG0
    iexact HO
  iintro ⟨HG0, HO⟩
  iapply (wp_recvStep m ρ K c j 1 o1 h1 w1 _ Q) $$ [HG1 HO]
  · isplitl [HG1]; · iexact HG1
    iexact HO
  iintro ⟨HG1, HO⟩
  iapply (wp_recvStep m ρ K c j 2 o2 h2 w2 _ Q) $$ [HG2 HO]
  · isplitl [HG2]; · iexact HG2
    iexact HO
  iintro ⟨HG2, HO⟩
  iapply (wp_recvStep m ρ K c j 3 o3 h3 w3 _ Q) $$ [HG3 HO]
  · isplitl [HG3]; · iexact HG3
    iexact HO
  iintro ⟨HG3, HO⟩
  iapply Hk
  isplitr [HO]
  · isplitl [HG0]; · iexact HG0
    isplitl [HG1]; · iexact HG1
    isplitl [HG2]; · iexact HG2
    iexact HG3
  iexact HO

theorem wp_recvAll (c : Dev nD) (P : Pr F) (Q : PUnit → sProp 𝕄) :
    iprop((bigSep Finset.univ fun jt : JT => recvG m ρ K c jt) ∗ owesX c 0)
      ⊢ iprop((((bigSep Finset.univ fun jt : JT => recvDone m ρ c jt) ∗ owesX c 0) -∗ WP c P Q)
          -∗ WP c (chainRecv c P) Q) := by
  rw [bigSep_univ_prod, bigSep_univ_prod, bigSep_three, bigSep_three]
  unfold chainRecv
  iintro ⟨⟨HG0, HG1, HG2⟩, HO⟩ Hk
  iapply (wp_recvFour m ρ K c 0 _ _ _ _ _ _ _ _ _ _ _ _ _ Q) $$ [HG0 HO]
  · isplitl [HG0]; · iexact HG0
    iexact HO
  iintro ⟨HG0, HO⟩
  iapply (wp_recvFour m ρ K c 2 _ _ _ _ _ _ _ _ _ _ _ _ _ Q) $$ [HG2 HO]
  · isplitl [HG2]; · iexact HG2
    iexact HO
  iintro ⟨HG2, HO⟩
  iapply (wp_recvFour m ρ K c 1 _ _ _ _ _ _ _ _ _ _ _ _ _ Q) $$ [HG1 HO]
  · isplitl [HG1]; · iexact HG1
    iexact HO
  iintro ⟨HG1, HO⟩
  iapply Hk
  isplitr [HO]
  · isplitl [HG0]; · iexact HG0
    isplitl [HG1]; · iexact HG1
    iexact HG2
  iexact HO

/-- The waits for the four sends to a peer. -/
theorem wp_sentFour (c : Dev nD) (j : Fin 3)
    (o0 : Fin 2 → Nat) (h0 : OffIn o0) (w0 : TWords o0 h0) (o1 : Fin 2 → Nat) (h1 : OffIn o1) (w1 : TWords o1 h1) (o2 : Fin 2 → Nat) (h2 : OffIn o2) (w2 : TWords o2 h2) (o3 : Fin 2 → Nat) (h3 : OffIn o3) (w3 : TWords o3 h3)
    (P : Pr F) (Q : PUnit → sProp 𝕄) :
    iprop((bigSep Finset.univ fun t : Fin 4 => sentG m ρ K c (j, t)) ∗ owesX c 0)
      ⊢ iprop((((bigSep Finset.univ fun t : Fin 4 => sentDone c (j, t)) ∗ owesX c 0) -∗ WP c P Q)
          -∗ WP c (sentOp j 0 o0 h0 w0 <| sentOp j 1 o1 h1 w1 <| sentOp j 2 o2 h2 w2 <| sentOp j 3 o3 h3 w3 <| P) Q) := by
  rw [bigSep_four, bigSep_four]
  iintro ⟨⟨HG0, HG1, HG2, HG3⟩, HO⟩ Hk
  iapply (wp_sentStep m ρ K c j 0 o0 h0 w0 _ Q) $$ [HG0 HO]
  · isplitl [HG0]; · iexact HG0
    iexact HO
  iintro ⟨HG0, HO⟩
  iapply (wp_sentStep m ρ K c j 1 o1 h1 w1 _ Q) $$ [HG1 HO]
  · isplitl [HG1]; · iexact HG1
    iexact HO
  iintro ⟨HG1, HO⟩
  iapply (wp_sentStep m ρ K c j 2 o2 h2 w2 _ Q) $$ [HG2 HO]
  · isplitl [HG2]; · iexact HG2
    iexact HO
  iintro ⟨HG2, HO⟩
  iapply (wp_sentStep m ρ K c j 3 o3 h3 w3 _ Q) $$ [HG3 HO]
  · isplitl [HG3]; · iexact HG3
    iexact HO
  iintro ⟨HG3, HO⟩
  iapply Hk
  isplitr [HO]
  · isplitl [HG0]; · iexact HG0
    isplitl [HG1]; · iexact HG1
    isplitl [HG2]; · iexact HG2
    iexact HG3
  iexact HO

theorem wp_sentAll (c : Dev nD) (P : Pr F) (Q : PUnit → sProp 𝕄) :
    iprop((bigSep Finset.univ fun jt : JT => sentG m ρ K c jt) ∗ owesX c 0)
      ⊢ iprop((((bigSep Finset.univ fun jt : JT => sentDone c jt) ∗ owesX c 0) -∗ WP c P Q)
          -∗ WP c (chainSent c P) Q) := by
  rw [bigSep_univ_prod, bigSep_univ_prod, bigSep_three, bigSep_three]
  unfold chainSent
  iintro ⟨⟨HG0, HG1, HG2⟩, HO⟩ Hk
  iapply (wp_sentFour m ρ K c 0 _ _ _ _ _ _ _ _ _ _ _ _ _ Q) $$ [HG0 HO]
  · isplitl [HG0]; · iexact HG0
    iexact HO
  iintro ⟨HG0, HO⟩
  iapply (wp_sentFour m ρ K c 2 _ _ _ _ _ _ _ _ _ _ _ _ _ Q) $$ [HG2 HO]
  · isplitl [HG2]; · iexact HG2
    iexact HO
  iintro ⟨HG2, HO⟩
  iapply (wp_sentFour m ρ K c 1 _ _ _ _ _ _ _ _ _ _ _ _ _ Q) $$ [HG1 HO]
  · isplitl [HG1]; · iexact HG1
    iexact HO
  iintro ⟨HG1, HO⟩
  iapply Hk
  isplitr [HO]
  · isplitl [HG0]; · iexact HG0
    isplitl [HG1]; · iexact HG1
    iexact HG2
  iexact HO

end Names

end Cert.KernelIdealMM
-- ==== Proof.KernelIdealBody.lean ====
/-
`Body`: the body on one device, from what the launch hands it to what it leaves.
-/
module

public import proofs.«01_k».proof.Proof.KernelIdealChain

@[expose] public section

noncomputable section

namespace Cert.KernelIdealMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem dev1_eq (c : Dev nD) : (⟨k0_dev1 c, k0_dev1_lt c⟩ : Dev nD) = pe c 0 := by revert c; decide +kernel
theorem dev2_eq (c : Dev nD) : (⟨k0_dev2 c, k0_dev2_lt c⟩ : Dev nD) = pe c 1 := by revert c; decide +kernel
theorem dev3_eq (c : Dev nD) : (⟨k0_dev3 c, k0_dev3_lt c⟩ : Dev nD) = pe c 2 := by revert c; decide +kernel
theorem dev4_eq (c : Dev nD) : (⟨k0_dev4 c, k0_dev4_lt c⟩ : Dev nD) = pe c 1 := by revert c; decide +kernel
theorem dev5_eq (c : Dev nD) : (⟨k0_dev5 c, k0_dev5_lt c⟩ : Dev nD) = pe c 0 := by revert c; decide +kernel
theorem dev6_eq (c : Dev nD) : (⟨k0_dev6 c, k0_dev6_lt c⟩ : Dev nD) = pe c 2 := by revert c; decide +kernel
theorem dev7_eq (c : Dev nD) : (⟨k0_dev7 c, k0_dev7_lt c⟩ : Dev nD) = pe c 1 := by revert c; decide +kernel
theorem dev8_eq (c : Dev nD) : (⟨k0_dev8 c, k0_dev8_lt c⟩ : Dev nD) = pe c 0 := by revert c; decide +kernel
theorem dev9_eq (c : Dev nD) : (⟨k0_dev9 c, k0_dev9_lt c⟩ : Dev nD) = pe c 2 := by revert c; decide +kernel
theorem dev10_eq (c : Dev nD) : (⟨k0_dev10 c, k0_dev10_lt c⟩ : Dev nD) = pe c 1 := by revert c; decide +kernel
theorem dev11_eq (c : Dev nD) : (⟨k0_dev11 c, k0_dev11_lt c⟩ : Dev nD) = pe c 0 := by revert c; decide +kernel
theorem dev12_eq (c : Dev nD) : (⟨k0_dev12 c, k0_dev12_lt c⟩ : Dev nD) = pe c 2 := by revert c; decide +kernel
theorem dev13_eq (c : Dev nD) : (⟨k0_dev13 c, k0_dev13_lt c⟩ : Dev nD) = pe c 1 := by revert c; decide +kernel
theorem dev14_eq (c : Dev nD) : (⟨k0_dev14 c, k0_dev14_lt c⟩ : Dev nD) = pe c 0 := by revert c; decide +kernel
theorem dev15_eq (c : Dev nD) : (⟨k0_dev15 c, k0_dev15_lt c⟩ : Dev nD) = pe c 2 := by revert c; decide +kernel

/-! ## The pipeline's proof data -/

section Ghost
variable (K : Dev nD × CK → ℕ)

/-- The protocol's part of what device `c`'s body starts from. -/
def ghost (c : Dev nD) : sProp 𝕄 :=
  iprop((cellInv ER (Rd m ρ) (K (c, none)) (barCell c) ∗ atPos ER (barCell c) 0 ∅ 0)
    ∗ (bigSep Finset.univ fun j : Fin 3 => sigG m ρ K c j)
    ∗ (bigSep Finset.univ fun jt : JT => sendG m ρ K c jt)
    ∗ (bigSep Finset.univ fun jt : JT => iprop(cellInv ER (Rd m ρ) (K (c, some (true, jt))) (recvCell c jt) ∗ atPos ER (recvCell c jt) 0 ∅ 0))
    ∗ (bigSep Finset.univ fun jt : JT => iprop(cellInv ER (Rd m ρ) (K (c, some (false, jt))) (sendCell c jt) ∗ atPos ER (sendCell c jt) 0 ∅ 0)))

end Ghost

/-- The weight copies' semaphores at zero. -/
def wSems (c : Dev nD) : sProp 𝕄 := bigSep Finset.univ fun k : Fin 2 => semVal ((c : Thread nD τ), .dma (wS k)) 0

/-- The weights at a share. -/
def wAll (c : Dev nD) (q : PosShare TreeShare) : sProp 𝕄 := ((c : Thread nD τ).loc main_arg1) ↦{q} wv m c

/-- What device `c`'s body starts from, besides its scratch buffers and windows. -/
def start (c : Dev nD) : sProp 𝕄 :=
  iprop((∃ K, ghost m ρ K c) ∗ wSems c ∗ wAll m c fullShare.left ∗ cred (tallyAt (barCell c) () 3)
    ∗ (bigSep Finset.univ fun jt : JT => cred (tallyAt (recvCell c jt) () N)) ∗ levAts L lv)

/-- The scratch buffers at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scr c)
/-- After the point: the scratch buffers, and every cell closed with its counter at zero. -/
def Φ₁ (c : Dev nD) : sProp 𝕄 :=
  iprop(scr c ∗ wSems c ∗ (bigSep Finset.univ fun jt : JT => semVal (sendCell c jt) 0)
    ∗ (bigSep Finset.univ fun jt : JT => semVal (recvCell c jt) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

def t₀ : Fin cfg0.N := t0_0
theorem fin_N (t : Fin cfg0.N) : t = t₀ := fin_N0 t
theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Buffers to pieces and back -/

/-- The result's window: the own row block, and each peer's row block. -/
theorem out_split (c : Dev nD) (f : Buf (Elt F) ((c : Thread nD τ).loc cc0_stg1_0)) :
    (((c : Thread nD τ).loc cc0_stg1_0) ↦{fullShare} f : sProp 𝕄)
      ⊢ iprop((bigSep Finset.univ fun t : Fin 4 => iprop(∃ f, tilePts c c t f))
        ∗ bigSep Finset.univ fun j : Fin 3 => bigSep Finset.univ fun t : Fin 4 => iprop(∃ f, tilePts c (pe c j) t f)) := by
  rw [out_parts]
  have h : ∀ (p : Dev nD) (t : Fin 4), (tilePts c p t f : sProp 𝕄) ⊢ iprop(∃ f, tilePts c p t f) := fun p t => by
    iintro H; iexists f; iexact H
  exact BI.sep_mono (bigSep_mono fun t _ => h c t) (bigSep_mono fun j _ => bigSep_mono fun t _ => h _ t)

theorem out_whole (c : Dev nD) :
    iprop((bigSep Finset.univ fun t : Fin 4 => tilePts c c t (outAt m ρ c)) ∗ bigSep Finset.univ fun jt : JT => recvPay m ρ c jt)
      ⊢ (((c : Thread nD τ).loc cc0_stg1_0) ↦{fullShare} outAt m ρ c : sProp 𝕄) := by
  rw [out_parts c (outAt m ρ c), bigSep_univ_prod]
  refine sep_mono_right (Entails.of_eq ?_)
  rw [bigSep_univ_equiv Fin.revPerm]
  refine bigSep_congr fun j _ => bigSep_congr fun t _ => ?_
  show tilePts c (qe c (rv j)) t _ = _
  rw [qe_rv]

/-- The resources of every send. -/
theorem send_gather (K : Dev nD × CK → ℕ) (c : Dev nD) (f : Buf (Elt F) ((c : Thread nD τ).loc cc0_scratch1)) :
    iprop((bigSep Finset.univ fun jt : JT => sendG m ρ K c jt) ∗ (((c : Thread nD τ).loc cc0_scratch1) ↦{fullShare} f)
        ∗ bigSep Finset.univ fun j : Fin 3 => bigSep Finset.univ fun t : Fin 4 => iprop(∃ f, tilePts (pe c j) c t f))
      ⊢ (bigSep Finset.univ fun jt : JT => sendRes m ρ K c jt : sProp 𝕄) := by
  rw [send_parts, ← bigSep_univ_prod (fun jt : JT => (iprop(∃ f, tilePts (pe c jt.1) c jt.2 f) : sProp 𝕄))]
  unfold sendRes
  rw [bigSep_sep', bigSep_sep']
  have h : ∀ jt : JT, (piecePts c jt.1 jt.2 f : sProp 𝕄) ⊢ iprop(∃ f, piecePts c jt.1 jt.2 f) := fun jt => by
    iintro H; iexists f; iexact H
  exact sep_mono_right (sep_mono_left (bigSep_mono fun jt _ => h jt))

theorem wPts_zero (c : Dev nD) : (wPts m c 0 : sProp 𝕄) = ((c : Thread nD τ).loc main_arg1) ↦{fullShare.left.left} wv m c := by
  unfold wPts wShare; rw [if_pos rfl]
theorem wPts_one (c : Dev nD) : (wPts m c 1 : sProp 𝕄) = ((c : Thread nD τ).loc main_arg1) ↦{fullShare.left.right} wv m c := by
  unfold wPts wShare; rw [if_neg (by decide)]

/-- The weights' share and buffer as the two slots' resources. -/
theorem slots_gather (c : Dev nD) (f : Buf (Elt F) ((c : Thread nD τ).loc cc0_scratch0)) :
    iprop(wSems c ∗ wAll m c fullShare.left ∗ (((c : Thread nD τ).loc cc0_scratch0) ↦{fullShare} f))
      ⊢ (iprop(slotFree m c 0 ∗ slotFree m c 1) : sProp 𝕄) := by
  rw [slot_parts, bigSep_pair]
  unfold wSems wAll slotFree
  rw [bigSep_pair, wPts_zero, wPts_one]
  iintro ⟨⟨Hv0, Hv1⟩, Hw, Hs0, Hs1⟩
  ihave Hw := (pointsTo_share (PosShare.mem_left_op_right fullShare.left)).1 $$ Hw
  icases Hw with ⟨Hw0, Hw1⟩
  isplitl [Hv0 Hw0 Hs0]
  · isplitl [Hv0]; · iexact Hv0
    isplitl [Hs0]; · iexists f; iexact Hs0
    iexact Hw0
  isplitl [Hv1]; · iexact Hv1
  isplitl [Hs1]; · iexists f; iexact Hs1
  iexact Hw1

theorem slots_give (c : Dev nD) :
    iprop(slotFree m c 0 ∗ slotFree m c 1)
      ⊢ (iprop(wSems c ∗ ∃ f : Buf (Elt F) ((c : Thread nD τ).loc cc0_scratch0), ((c : Thread nD τ).loc cc0_scratch0) ↦{fullShare} f) : sProp 𝕄) := by
  unfold wSems slotFree
  rw [bigSep_pair]
  iintro ⟨⟨Hv0, Hs0, -⟩, Hv1, Hs1, -⟩
  isplitl [Hv0 Hv1]
  · isplitl [Hv0]; · iexact Hv0
    iexact Hv1
  iapply (slot_join (F := F) c)
  rw [bigSep_pair]
  isplitl [Hs0]; · iexact Hs0
  iexact Hs1

/-- A family over the sends, listed. -/
theorem JT_list (Φ : JT → sProp 𝕄) : bigSep Finset.univ Φ = iprop((Φ (0, 0) ∗ Φ (0, 1) ∗ Φ (0, 2) ∗ Φ (0, 3))
    ∗ (Φ (1, 0) ∗ Φ (1, 1) ∗ Φ (1, 2) ∗ Φ (1, 3)) ∗ Φ (2, 0) ∗ Φ (2, 1) ∗ Φ (2, 2) ∗ Φ (2, 3)) := by
  rw [bigSep_univ_prod, bigSep_three, bigSep_four, bigSep_four, bigSep_four]

theorem bigSep_sep3 (A B C : JT → sProp 𝕄) :
    iprop((bigSep Finset.univ fun jt : JT => iprop(A jt ∗ B jt)) ∗ bigSep Finset.univ C)
      = bigSep Finset.univ fun jt : JT => iprop(A jt ∗ B jt ∗ C jt) := by
  rw [bigSep_sep', bigSep_sep' Finset.univ A fun jt => iprop(B jt ∗ C jt), bigSep_sep']
  exact equiv_iff.mp ⟨BI.sep_assoc, BI.sep_assoc'⟩

/-! ## The body -/

section Body

variable (K : Dev nD × CK → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from at the names `K`. -/
def chainPre (c : Dev nD) : sProp 𝕄 :=
  iprop(ghost m ρ K c ∗ wSems c ∗ wAll m c fullShare.left ∗ cred (tallyAt (barCell c) () 3)
    ∗ (bigSep Finset.univ fun jt : JT => cred (tallyAt (recvCell c jt) () N)) ∗ levAts L lv ∗ scr c
    ∗ owesX c (O₀ c) ∗ xPts m ρ c ∗ ∃ f : Buf (Elt F) ((c : Thread nD τ).loc cc0_stg1_0), ((c : Thread nD τ).loc cc0_stg1_0) ↦{fullShare} f)

def chainPost (c : Dev nD) : sProp 𝕄 :=
  iprop(Φ₁ c ∗ owesX c 0 ∗ xPts m ρ c ∗ (((c : Thread nD τ).loc cc0_stg1_0) ↦{fullShare} outAt m ρ c))

set_option maxHeartbeats 1600000 in
/-- The chain on device `c`, section by section. -/
theorem wp_chain (c : Dev nD) (Q : PUnit → sProp 𝕄) :
    iprop(chainPre m ρ K c ∗ (chainPost m ρ c -∗ Q ⟨⟩)) ⊢ WP c (chain c) Q := by
  unfold chainPre ghost scr chain chainBar O₀ O₁ O₂
  iintro ⟨⟨⟨⟨#HIb, Hab⟩, Hsig, Hsnd, Hrcv, Hsnt⟩, Hws, Hw, Hcb, Hcr, #Hlev, ⟨⟨%f0, Hs0⟩, ⟨%f1, Hs1⟩⟩, HO, Hx, ⟨%g, Hout⟩⟩, Hk⟩
  ihave Hout := (out_split (F := F) c g) $$ Hout
  icases Hout with ⟨Hown, Hpeer⟩
  ihave Hsig := (Entails.of_eq (bigSep_three (F := F) fun j => sigG m ρ K c j)) $$ Hsig
  icases Hsig with ⟨Hg0, Hg1, Hg2⟩
  ihave Hpeer := (Entails.of_eq (bigSep_three (F := F) fun j => bigSep Finset.univ fun t : Fin 4 => iprop(∃ f, tilePts c (pe c j) t f))) $$ Hpeer
  icases Hpeer with ⟨Hp0, Hp1, Hp2⟩
  iapply (wp_sig m ρ K c 0 _ _ (dev1_eq c) (O₃ c + tallyAt (barCell (pe c 2)) () 1 + tallyAt (barCell (pe c 1)) () 1) _ Q) $$ [Hg0 Hp0 HO]
  · isplitl [Hg0]; · iexact Hg0
    isplitl [Hp0]; · iexact Hp0
    iexact HO
  iintro HO
  iapply (wp_sig m ρ K c 1 _ _ (dev2_eq c) (O₃ c + tallyAt (barCell (pe c 2)) () 1) _ Q) $$ [Hg1 Hp1 HO]
  · isplitl [Hg1]; · iexact Hg1
    isplitl [Hp1]; · iexact Hp1
    iexact HO
  iintro HO
  iapply (wp_sig m ρ K c 2 _ _ (dev3_eq c) (O₃ c) _ Q) $$ [Hg2 Hp2 HO]
  · isplitl [Hg2]; · iexact Hg2
    isplitl [Hp2]; · iexact Hp2
    iexact HO
  iintro HO
  iapply (wp_bar m ρ K c _ Q) $$ [Hab Hcb HO]
  · isplitl [Hab Hcb]
    · unfold barG
      isplitr; · iexact HIb
      isplitl [Hab]; · iexact Hab
      iexact Hcb
    isplitl [HO]; · iexact HO
    iexact Hlev
  iintro ⟨Hzb, HO, Htiles⟩
  ihave Hsnd := (send_gather m ρ K c f1) $$ [Hsnd Hs1 Htiles]
  · isplitl [Hsnd]; · iexact Hsnd
    isplitl [Hs1]; · iexact Hs1
    iexact Htiles
  ihave Hsl := (slots_gather m c f0) $$ [Hws Hw Hs0]
  · isplitl [Hws]; · iexact Hws
    isplitl [Hw]; · iexact Hw
    iexact Hs0
  icases Hsl with ⟨Hf, Hg⟩
  ihave Hsnd := (Entails.of_eq (JT_list (F := F) fun jt => sendRes m ρ K c jt)) $$ Hsnd
  icases Hsnd with ⟨⟨H00, H01, H02, H03⟩, ⟨H10, H11, H12, H13⟩, H20, H21, H22, H23⟩
  unfold O₃ sendOrder
  unfold chainSend0
  iapply (wp_wStart m c 0 _ _ _ Q) $$ Hf
  iintro Hb
  iapply (wp_triple m ρ K c 0 1 0 _ _ (offw_eq c 1 0) _ _ (offw_eq c 0 0) _ _ (offw_eq c 2 0) _ _
    _ _ (dev4_eq c) _ _ (dev5_eq c) _ _ (dev6_eq c) _ (k0_off2_inb c) (k0_off2_wordsbf16 c) (k0_off2_eq c) [(1, 1), (0, 1), (2, 1), (1, 2), (0, 2), (2, 2), (1, 3), (0, 3), (2, 3)] _ Q) $$ [H10 H00 H20 Hb Hg Hx HO]
  · isplitl [H10]; · iexact H10
    isplitl [H00]; · iexact H00
    isplitl [H20]; · iexact H20
    isplitl [Hb]; · iexact Hb
    isplitl [Hg]; · iexact Hg
    isplitl [Hx]; · iexact Hx
    isplitl [HO]; · iexact HO
    iexact Hlev
  iintro ⟨Hg, Hb, Hx, HO, H10, H00, H20⟩
  unfold chainSend1
  iapply (wp_triple m ρ K c 1 0 1 _ _ (offw_eq c 1 1) _ _ (offw_eq c 0 1) _ _ (offw_eq c 2 1) _ _
    _ _ (dev7_eq c) _ _ (dev8_eq c) _ _ (dev9_eq c) _ (k0_off3_inb c) (k0_off3_wordsbf16 c) (k0_off3_eq c) [(1, 2), (0, 2), (2, 2), (1, 3), (0, 3), (2, 3)] _ Q) $$ [H11 H01 H21 Hb Hg Hx HO]
  · isplitl [H11]; · iexact H11
    isplitl [H01]; · iexact H01
    isplitl [H21]; · iexact H21
    isplitl [Hb]; · iexact Hb
    isplitl [Hg]; · iexact Hg
    isplitl [Hx]; · iexact Hx
    isplitl [HO]; · iexact HO
    iexact Hlev
  iintro ⟨Hg, Hb, Hx, HO, H11, H01, H21⟩
  unfold chainSend2
  iapply (wp_triple m ρ K c 0 1 2 _ _ (offw_eq c 1 2) _ _ (offw_eq c 0 2) _ _ (offw_eq c 2 2) _ _
    _ _ (dev10_eq c) _ _ (dev11_eq c) _ _ (dev12_eq c) _ (k0_off4_inb c) (k0_off4_wordsbf16 c) (k0_off4_eq c) [(1, 3), (0, 3), (2, 3)] _ Q) $$ [H12 H02 H22 Hb Hg Hx HO]
  · isplitl [H12]; · iexact H12
    isplitl [H02]; · iexact H02
    isplitl [H22]; · iexact H22
    isplitl [Hb]; · iexact Hb
    isplitl [Hg]; · iexact Hg
    isplitl [Hx]; · iexact Hx
    isplitl [HO]; · iexact HO
    iexact Hlev
  iintro ⟨Hg, Hb, Hx, HO, H12, H02, H22⟩
  unfold chainSend3
  iapply (wp_triple m ρ K c 1 0 3 _ _ (offw_eq c 1 3) _ _ (offw_eq c 0 3) _ _ (offw_eq c 2 3) _ _
    _ _ (dev13_eq c) _ _ (dev14_eq c) _ _ (dev15_eq c) _ (k0_off5_inb c) (k0_off5_wordsbf16 c) (k0_off5_eq c) [] _ Q) $$ [H13 H03 H23 Hb Hg Hx HO]
  · isplitl [H13]; · iexact H13
    isplitl [H03]; · iexact H03
    isplitl [H23]; · iexact H23
    isplitl [Hb]; · iexact Hb
    isplitl [Hg]; · iexact Hg
    isplitl [Hx]; · iexact Hx
    isplitl [HO]; · iexact HO
    iexact Hlev
  iintro ⟨Hg, Hb, Hx, HO, H13, H03, H23⟩
  iapply (wp_own m ρ c _ Q) $$ [Hown Hb Hg Hx HO]
  · isplitl [Hown]; · iexact Hown
    isplitl [Hb]; · iexact Hb
    isplitl [Hg]; · iexact Hg
    isplitl [Hx]; · iexact Hx
    isplitl [HO]; · iexact HO
    iexact Hlev
  iintro ⟨Hf, Hg, Hx, HO, Hown⟩
  iapply (wp_recvAll m ρ K c _ Q) $$ [Hrcv Hcr HO]
  · isplitl [Hrcv Hcr]
    · unfold recvG
      iapply (Entails.of_eq (bigSep_sep3 (F := F) (fun jt : JT => cellInv ER (Rd m ρ) (K (c, some (true, jt))) (recvCell c jt)) _ _))
      isplitl [Hrcv]; · iexact Hrcv
      iexact Hcr
    iexact HO
  iintro ⟨Hrcv, HO⟩
  iapply (wp_sentAll m ρ K c _ Q) $$ [Hsnt H00 H01 H02 H03 H10 H11 H12 H13 H20 H21 H22 H23 HO]
  · isplitr [HO]
    · unfold sentG
      iapply (Entails.of_eq (bigSep_sep3 (F := F) (fun jt : JT => cellInv ER (Rd m ρ) (K (c, some (false, jt))) (sendCell c jt)) _ _))
      isplitl [Hsnt]; · iexact Hsnt
      iapply (Entails.of_eq (JT_list (F := F) fun jt => cred (tallyAt (sendCell c jt) () N)).symm)
      isplitl [H00 H01 H02 H03]
      · isplitl [H00]; · iexact H00
        isplitl [H01]; · iexact H01
        isplitl [H02]; · iexact H02
        iexact H03
      isplitl [H10 H11 H12 H13]
      · isplitl [H10]; · iexact H10
        isplitl [H11]; · iexact H11
        isplitl [H12]; · iexact H12
        iexact H13
      isplitl [H20]; · iexact H20
      isplitl [H21]; · iexact H21
      isplitl [H22]; · iexact H22
      iexact H23
    iexact HO
  iintro ⟨Hsnt, HO⟩
  unfold WP
  rw [wp_ret]; imodintro
  iapply Hk
  unfold chainPost Φ₁ scr recvDone sentDone
  ihave Hrcv := (Entails.of_eq (bigSep_sep' Finset.univ (fun jt : JT => (semVal (recvCell c jt) 0 : sProp 𝕄)) fun jt => recvPay m ρ c jt)) $$ Hrcv
  ihave Hsnt := (Entails.of_eq (bigSep_sep' Finset.univ (fun jt : JT => (semVal (sendCell c jt) 0 : sProp 𝕄)) fun jt => sendPay c jt)) $$ Hsnt
  icases Hrcv with ⟨Hzr, Hrcv⟩
  icases Hsnt with ⟨Hzs, Hsnt⟩
  ihave Hsl := (slots_give m c) $$ [Hf Hg]
  · isplitl [Hf]; · iexact Hf
    iexact Hg
  icases Hsl with ⟨Hws, Hs0⟩
  unfold sendPay
  ihave Hs1 := (send_join (F := F) c) $$ Hsnt
  ihave Hout := (out_whole m ρ c) $$ [Hown Hrcv]
  · isplitl [Hown]; · iexact Hown
    iexact Hrcv
  isplitl [Hs0 Hs1 Hws Hzs Hzr Hzb]
  · isplitl [Hs0 Hs1]
    · isplitl [Hs0]; · iexact Hs0
      iexact Hs1
    isplitl [Hws]; · iexact Hws
    isplitl [Hzs]; · iexact Hzs
    isplitl [Hzr]; · iexact Hzr
    iexact Hzb
  isplitl [HO]; · iexact HO
  isplitl [Hx]; · iexact Hx
  iexact Hout

/-- The windows and what is owed around the point. -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xv m ρ c) ∗ stg c cc0_stg1_0 (outAt m ρ c))

set_option maxRecDepth 65536 in
theorem wp_body (c : Dev nD) :
    bodyPre m ρ c ⊢ wp frame (wpE (defs₀ (F := F)) 𝒱₀ (c : Thread nD τ) none) Set.univ
      (cc0_body xM (Memref.isWhole_whole _) wM (Memref.isWhole_whole _) oM (Memref.isWhole_whole _)
        bM (Memref.isWhole_whole _) sM (Memref.isWhole_whole _) cc0_scratch2 cc0_scratch3 cc0_scratch4) (fun _ => bodyPost m ρ c) := by
  rw [cc0_body_eq]
  rw [wp_deviceId]
  unfold bodyPre Φ₀ start Dat.owesAt Pipeline.owesWithin
  iintro ⟨⟨⟨⟨%K, Hg⟩, Hws, Hw, Hcb, Hcr, #Hlev⟩, Hscr⟩, ⟨%W, %hW, HO⟩, ⟨%d0, %g0, %hg0, Hx⟩, ⟨%d1, %g1, %hg1, Hout⟩⟩
  have hx : g0 = xv m ρ c := by rw [hg0]; unfold Dat.before; rw [if_pos (fetch_0 t₀)]; rfl
  subst hx
  iapply (wp_chain m ρ K c)
  unfold chainPre owesX xPts
  isplitr []
  · isplitl [Hg]; · iexact Hg
    isplitl [Hws]; · iexact Hws
    isplitl [Hw]; · iexact Hw
    isplitl [Hcb]; · iexact Hcb
    isplitl [Hcr]; · iexact Hcr
    isplitr; · iexact Hlev
    isplitl [Hscr]; · iexact Hscr
    isplitl [HO]; · iexists W; iexact HO
    isplitl [Hx]; · iexact Hx
    iexists g1; iexact Hout
  unfold chainPost bodyPost owesX xPts
  iintro ⟨HΦ, ⟨%W', HO⟩, Hx, Hout⟩
  isplitl [HΦ]; · iexact HΦ
  isplitl [HO]
  · unfold Dat.owesAt Pipeline.owesWithin
    iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 65536 in
/-- The pipeline's obligation for the body on core `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact wp_body m ρ c

end Body

end Cert.KernelIdealMM
-- ==== Proof.KernelIdealLaunch.lean ====
/-
`Launch`: the resources dealt at launch, the credits, and the run of @main.
-/
module

public import proofs.«01_k».proof.Proof.KernelIdealBody
public import Idealize.ShloMosaic.Lib.Pipeline.CollectiveSegs
public import Idealize.ShloMosaic.Lib.Quiescent

@[expose] public section

noncomputable section

namespace Cert.KernelIdealMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The weight copies' semaphores, and the senders' and receivers'. -/
abbrev osem : Fin 2 ⊕ (Bool × JT) → SemLoc sig
  | .inl k => .dma (wS k)
  | .inr x => csem (some x)

theorem ownSemFacts : Pipeline.OwnSemFacts cfg0.spec osem where
  isScoped := by decide +kernel
  inj := by
    have h : ∀ a b, osem a = osem b → a = b := by decide +kernel
    exact fun a b => h a b
  disj := by decide +kernel

theorem share_eq (c : Dev nD) (w : Fin cfg0.W) : (dats m ρ 0 c).share w = fullShare := by unfold Dat.share; split <;> rfl

theorem bigSep_two (Φ : Bool → sProp 𝕄) : bigSep Finset.univ Φ = iprop(Φ false ∗ Φ true) :=
  bigSep_univ_eq_bigSepL [false, true] (by decide) (by decide) Φ

theorem bigSep_side (Φ : Bool × JT → sProp 𝕄) : bigSep Finset.univ Φ
    = iprop((bigSep Finset.univ fun jt : JT => Φ (false, jt)) ∗ bigSep Finset.univ fun jt : JT => Φ (true, jt)) := by
  rw [bigSep_univ_prod, bigSep_two]

theorem bigSep_ck (Φ : CK → sProp 𝕄) : bigSep Finset.univ Φ
    = iprop(Φ none ∗ (bigSep Finset.univ fun jt : JT => Φ (some (false, jt))) ∗ bigSep Finset.univ fun jt : JT => Φ (some (true, jt))) := by
  rw [bigSep_univ_at _ none, ← bigSep_side (fun x => Φ (some x))]
  congr 1

theorem ownSems0_eq (c : Dev nD) : (Pipeline.ownSems0 (Ix := Unit) (Name := ℕ) (U := UU) (Lvl := ℕ) (Val := Elt F) (τ := τ) osem c : sProp 𝕄)
    = iprop(wSems c ∗ (bigSep Finset.univ fun jt : JT => semVal (sendCell c jt) 0) ∗ bigSep Finset.univ fun jt : JT => semVal (recvCell c jt) 0) := by
  unfold Pipeline.ownSems0 wSems
  rw [BI.bigSep_univ_sum, bigSep_side]
  rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-! ## What the launch mints -/

def cells : Finset (GSem nD τ sig) := Finset.univ.map ⟨kcell, kcell_injective⟩

/-- A device's own cells' duties: the barrier's three, and one for each send and each receive. -/
abbrev TK : Type := Fin 3 ⊕ (Bool × JT)

abbrev tokOf (ct : Dev nD × TK) : GSem nD τ sig × ℕ × Fin 3 := match ct.2 with
  | .inl j => (barCell ct.1, 0, j)
  | .inr x => (kcell (ct.1, some x), 0, 0)

theorem tokOf_injective : Function.Injective tokOf := by
  rintro ⟨c, a⟩ ⟨c', b⟩ h
  rcases a with j | x <;> rcases b with j' | x'
  · have h1 : (c, (none : CK)) = (c', none) := kcell_injective (congrArg (fun y : GSem nD τ sig × ℕ × Fin 3 => y.1) h)
    have h2 : j = j' := congrArg (fun y : GSem nD τ sig × ℕ × Fin 3 => y.2.2) h
    rw [h2, show c = c' from congrArg Prod.fst h1]
  · have h1 : (c, (none : CK)) = (c', some x') := kcell_injective (congrArg (fun y : GSem nD τ sig × ℕ × Fin 3 => y.1) h)
    exact absurd (congrArg Prod.snd h1) (by simp)
  · have h1 : (c, (some x : CK)) = (c', none) := kcell_injective (congrArg (fun y : GSem nD τ sig × ℕ × Fin 3 => y.1) h)
    exact absurd (congrArg Prod.snd h1) (by simp)
  · have h1 : (c, (some x : CK)) = (c', some x') := kcell_injective (congrArg (fun y : GSem nD τ sig × ℕ × Fin 3 => y.1) h)
    rw [show c = c' from congrArg Prod.fst h1, show x = x' from Option.some.inj (congrArg Prod.snd h1)]

def mintToks : Finset (GSem nD τ sig × ℕ × Fin 3) := Finset.univ.map ⟨tokOf, tokOf_injective⟩

def u₀ : UU :=
  (initOf (Pipeline.cells cfgs cellOf_inj) (Pipeline.launchToks cfgs cellOf_inj), (initOf cells mintToks, 1))

/-- The launch's element is the pipeline's and the protocol's. -/
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The duty tokens of device `c`'s own cells. -/
def toks (c : Dev nD) : sProp 𝕄 :=
  iprop((bigSep Finset.univ fun j : Fin 3 => dutyTok ER (barCell c) 0 j)
    ∗ (bigSep Finset.univ fun jt : JT => dutyTok ER (sendCell c jt) 0 (0 : Fin 3))
    ∗ bigSep Finset.univ fun jt : JT => dutyTok ER (recvCell c jt) 0 (0 : Fin 3))

/-- What the launch element deals device `c`. -/
def G (c : Dev nD) : sProp 𝕄 :=
  iprop((bigSep Finset.univ fun k : CK => roundState ER (Rd m ρ) (kcell (c, k)) 0)
    ∗ ((bigSep Finset.univ fun k : CK => atPos ER (kcell (c, k)) 0 ∅ 0)
      ∗ bigSep Finset.univ fun k : CK => reached ER (kcell (c, k)) 0) ∗ toks c)

/-- What the global step makes of it. -/
def G' (c : Dev nD) : sProp 𝕄 := iprop((∃ K, ghost m ρ K c) ∗ wSems c)

theorem mint : BI.own (ER (initOf cells mintToks)) ⊢ (|==> bigSep Finset.univ (G m ρ) : sProp 𝕄) := by
  have hX (Φ : GSem nD τ sig → sProp 𝕄) : bigSep cells Φ = bigSep Finset.univ fun c : Dev nD => bigSep Finset.univ fun k : CK => Φ (kcell (c, k)) := by
    unfold cells; rw [BI.bigSep_map, bigSep_univ_prod]; rfl
  have hT : bigSep mintToks (fun x => (dutyTok ER x.1 x.2.1 x.2.2 : sProp 𝕄)) = bigSep Finset.univ fun c : Dev nD => toks c := by
    unfold mintToks; rw [BI.bigSep_map, bigSep_univ_prod]
    exact bigSep_congr fun c _ => by unfold toks; rw [BI.bigSep_univ_sum, bigSep_side]; rfl
  iintro HX
  imod (Rounds.fund ER (Rd m ρ) cells mintToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- Device `c`'s semaphores at zero are the weight copies' and its cells'. -/
theorem sems0_eq (c : Dev nD) :
    iprop(Pipeline.ownSems0 (Ix := Unit) (Name := ℕ) (U := UU) (Lvl := ℕ) (Val := Elt F) (τ := τ) osem c ∗ unscopedSems0 c)
      ⊢ (iprop(wSems c ∗ bigSep Finset.univ fun k : CK => semVal (kcell (c, k)) 0) : sProp 𝕄) := by
  rw [ownSems0_eq, unscopedSems0_eq, bigSep_ck]
  iintro ⟨⟨HW, HS, HV⟩, HB⟩
  isplitl [HW]; · iexact HW
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (kcell (c, k))))
          ∗ (bigSep Finset.univ fun k : CK => reached ER (kcell (c, k)) 0)
          ∗ (bigSep Finset.univ fun k : CK => atPos ER (kcell (c, k)) 0 ∅ 0) ∗ toks c ∗ wSems c) := by
  unfold G
  iintro ⟨Hos, Hus, Hst, ⟨Hat, Hr⟩, Htok⟩
  ihave Hv := (sems0_eq (F := F) c) $$ [Hos Hus]
  · isplitl [Hos] <;> iassumption
  icases Hv with ⟨Hw, Hv⟩
  have hall : iprop((bigSep Finset.univ fun k : CK => semVal (kcell (c, k)) 0) ∗ bigSep Finset.univ fun k : CK => roundState ER (Rd m ρ) (kcell (c, k)) 0)
      ⊢ (|={Set.univ}=> bigSep Finset.univ fun k : CK => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  imod (hall) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact Hw

/-! ## The records and tokens, dealt to who uses them -/

def records (K : Dev nD × CK → ℕ) : sProp 𝕄 :=
  iprop((bigSep Finset.univ fun ck : Dev nD × CK => cellInv ER (Rd m ρ) (K ck) (kcell ck))
    ∗ bigSep Finset.univ fun ck : Dev nD × CK => reached ER (kcell ck) 0)

instance records_persistent (K : Dev nD × CK → ℕ) : BI.Persistent (records m ρ K) := by unfold records; infer_instance

theorem inv_at (K : Dev nD × CK → ℕ) (ck : Dev nD × CK) : records m ρ K ⊢ cellInv ER (Rd m ρ) (K ck) (kcell ck) := by
  unfold records; exact sep_elim_left.trans (bigSep_elim (Finset.mem_univ ck))
theorem reached_at (K : Dev nD × CK → ℕ) (ck : Dev nD × CK) : records m ρ K ⊢ reached ER (kcell ck) 0 := by
  unfold records; exact sep_elim_right.trans (bigSep_elim (Finset.mem_univ ck))

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The tokens of the duties device `c` pays. -/
def payToks (c : Dev nD) : sProp 𝕄 :=
  iprop((bigSep Finset.univ fun j : Fin 3 => dutyTok ER (barCell (pe c j)) 0 j)
    ∗ (bigSep Finset.univ fun jt : JT => dutyTok ER (sendCell c jt) 0 (0 : Fin 3))
    ∗ bigSep Finset.univ fun jt : JT => dutyTok ER (recvCell (pe c jt.1) jt) 0 (0 : Fin 3))

theorem toks_around : (bigSep Finset.univ fun c : Dev nD => (toks c : sProp 𝕄)) ⊢ bigSep Finset.univ fun c : Dev nD => payToks c := by
  have hb : (bigSep Finset.univ fun c : Dev nD => bigSep Finset.univ fun j : Fin 3 => (dutyTok ER (barCell c) 0 j : sProp 𝕄))
      = bigSep Finset.univ fun c : Dev nD => bigSep Finset.univ fun j : Fin 3 => dutyTok ER (barCell (pe c j)) 0 j := by
    rw [BI.bigSep_univ_comm, BI.bigSep_univ_comm (fun (c : Dev nD) (j : Fin 3) => (dutyTok ER (barCell (pe c j)) 0 j : sProp 𝕄))]
    exact bigSep_congr fun j _ => bigSep_univ_equiv (ringE j) (fun c : Dev nD => (dutyTok ER (barCell c) 0 j : sProp 𝕄))
  have hr : (bigSep Finset.univ fun c : Dev nD => bigSep Finset.univ fun jt : JT => (dutyTok ER (recvCell c jt) 0 (0 : Fin 3) : sProp 𝕄))
      = bigSep Finset.univ fun c : Dev nD => bigSep Finset.univ fun jt : JT => dutyTok ER (recvCell (pe c jt.1) jt) 0 (0 : Fin 3) := by
    rw [BI.bigSep_univ_comm, BI.bigSep_univ_comm (fun (c : Dev nD) (jt : JT) => (dutyTok ER (recvCell (pe c jt.1) jt) 0 (0 : Fin 3) : sProp 𝕄))]
    exact bigSep_congr fun jt _ => bigSep_univ_equiv (ringE jt.1) (fun c : Dev nD => (dutyTok ER (recvCell c jt) 0 (0 : Fin 3) : sProp 𝕄))
  unfold toks payToks
  rw [bigSep_sep', bigSep_sep', bigSep_sep', bigSep_sep', hb, hr]

/-- What stays with device `c`. -/
def linear (c : Dev nD) : sProp 𝕄 :=
  iprop((bigSep Finset.univ fun k : CK => atPos ER (kcell (c, k)) 0 ∅ 0) ∗ payToks c ∗ wSems c)

theorem ghost_intro (K : Dev nD × CK → ℕ) (c : Dev nD) : iprop(records m ρ K ∗ linear c) ⊢ G' m ρ c := by
  have hsig : iprop(records m ρ K ∗ bigSep Finset.univ fun j : Fin 3 => dutyTok ER (barCell (pe c j)) 0 j)
      ⊢ bigSep Finset.univ fun j : Fin 3 => sigG m ρ K c j :=
    bigSep_with fun j _ => by
      unfold sigG
      iintro ⟨#HR, Ht⟩
      isplitr; · iapply (inv_at m ρ K (pe c j, none)); iexact HR
      isplitr; · iapply (reached_at m ρ K (pe c j, none)); iexact HR
      iexact Ht
  have hsend : iprop(records m ρ K ∗ bigSep Finset.univ fun jt : JT =>
        iprop(dutyTok ER (sendCell c jt) 0 (0 : Fin 3) ∗ dutyTok ER (recvCell (pe c jt.1) jt) 0 (0 : Fin 3)))
      ⊢ bigSep Finset.univ fun jt : JT => sendG m ρ K c jt :=
    bigSep_with fun jt _ => by
      unfold sendG
      iintro ⟨#HR, Ht⟩
      isplitr; · iapply (inv_at m ρ K (c, some (false, jt))); iexact HR
      isplitr; · iapply (inv_at m ρ K (pe c jt.1, some (true, jt))); iexact HR
      isplitr; · iapply (reached_at m ρ K (c, some (false, jt))); iexact HR
      isplitr; · iapply (reached_at m ρ K (pe c jt.1, some (true, jt))); iexact HR
      iexact Ht
  have hat (b : Bool) : iprop(records m ρ K ∗ bigSep Finset.univ fun jt : JT => atPos ER (kcell (c, some (b, jt))) 0 ∅ 0)
      ⊢ bigSep Finset.univ fun jt : JT => iprop(cellInv ER (Rd m ρ) (K (c, some (b, jt))) (kcell (c, some (b, jt))) ∗ atPos ER (kcell (c, some (b, jt))) 0 ∅ 0) :=
    bigSep_with fun jt _ => by
      iintro ⟨#HR, Ht⟩
      isplitr; · iapply (inv_at m ρ K (c, some (b, jt))); iexact HR
      iexact Ht
  unfold linear payToks G' ghost
  rw [bigSep_ck]
  iintro ⟨#HR, ⟨HaB, HaS, HaV⟩, ⟨HtB, HtS, HtV⟩, Hw⟩
  isplitr [Hw]
  · iexists K
    isplitl [HaB]
    · isplitr; · iapply (inv_at m ρ K (c, none)); iexact HR
      iexact HaB
    isplitl [HtB]
    · iapply hsig; isplitr; · iexact HR
      iexact HtB
    isplitl [HtS HtV]
    · iapply hsend; isplitr; · iexact HR
      rw [bigSep_sep']
      isplitl [HtS] <;> iassumption
    isplitl [HaV]
    · iapply (hat true); isplitr; · iexact HR
      iexact HaV
    · iapply (hat false); isplitr; · iexact HR
      iexact HaS
  · iexact Hw

theorem regroup :
    (bigSep Finset.univ fun c : Dev nD => iprop((bigSep Finset.univ fun k : CK => iprop(∃ κ : ℕ, cellInv ER (Rd m ρ) κ (kcell (c, k))))
          ∗ (bigSep Finset.univ fun k : CK => reached ER (kcell (c, k)) 0)
          ∗ (bigSep Finset.univ fun k : CK => atPos ER (kcell (c, k)) 0 ∅ 0) ∗ toks c ∗ wSems c) : sProp 𝕄)
      ⊢ bigSep Finset.univ (G' m ρ) := by
  rw [bigSep_sep', bigSep_sep', bigSep_sep', bigSep_sep',
    ← bigSep_univ_prod (fun ck : Dev nD × CK => iprop(∃ κ : ℕ, cellInv ER (Rd m ρ) κ (kcell ck))),
    ← bigSep_univ_prod (fun ck : Dev nD × CK => (reached ER (kcell ck) 0 : sProp 𝕄))]
  iintro ⟨HI, #HR, Hat, Htok, Hw⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_around (F := F)) $$ Htok
  iapply (bigSep_with (R := records m ρ K) fun c _ => ghost_intro m ρ K c)
  isplitr
  · unfold records; isplitl; · iexact HI
    iexact HR
  · unfold linear
    rw [bigSep_sep', bigSep_sep']
    isplitl [Hat]; · iexact Hat
    isplitl [Htk]; · iexact Htk
    iexact Hw

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem kcell_ne {a b : Dev nD} {k k' : CK} (h : k ≠ k') : kcell (a, k) ≠ kcell (b, k') :=
  fun e => h (congrArg Prod.snd (kcell_injective e))

theorem tally_at (d c : Dev nD) (j : Fin 3) (k : CK) (n : ℕ) :
    (tallyAt (kcell (pe d j, k)) () n : CellTallies nD τ sig Unit) (kcell (c, k)) () = if d = qe c j then n else 0 := by
  rw [tallyAt_apply]
  by_cases h : d = qe c j
  · subst h; rw [pe_qe, if_pos ⟨rfl, rfl⟩, if_pos rfl]
  · rw [if_neg (fun ⟨h1, _⟩ => h (by
      have := congrArg Prod.fst (kcell_injective h1)
      rw [show c = pe d j from this, qe_pe])), if_neg h]

theorem tally_off (d c : Dev nD) {k k' : CK} (n : ℕ) (h : k ≠ k') :
    (tallyAt (kcell (d, k)) () n : CellTallies nD τ sig Unit) (kcell (c, k')) () = 0 := by
  rw [tallyAt_apply, if_neg fun ⟨h1, _⟩ => kcell_ne h h1.symm]

theorem oweL_bar (d c : Dev nD) : ∀ l : List JT, oweL d l (barCell c) () = 0
  | [] => rfl
  | jt :: l => by
    unfold oweL
    rw [Pi.add_apply, Finsupp.add_apply, oweL_bar d c l, tally_off _ _ _ (by simp)]

theorem oweL_recv (d c : Dev nD) (jt : JT) : ∀ l : List JT,
    oweL d l (recvCell c jt) () = if d = qe c jt.1 then l.count jt * N else 0
  | [] => by rw [List.count_nil, Nat.zero_mul, ite_self]; rfl
  | x :: l => by
    unfold oweL
    rw [Pi.add_apply, Finsupp.add_apply, oweL_recv d c jt l, List.count_cons]
    by_cases hx : x = jt
    · subst hx
      rw [tally_at, if_pos (beq_self_eq_true x), Nat.add_mul, Nat.one_mul]
      split <;> rfl
    · rw [tally_off _ _ _ (by simpa using hx), if_neg (c := (x == jt) = true) (by simpa using hx), Nat.add_zero, Nat.add_zero]

theorem order_count (jt : JT) : sendOrder.count jt = 1 := by revert jt; decide +kernel

theorem owed_bar (d c : Dev nD) : O₀ d (barCell c) ()
    = (if d = qe c 2 then 1 else 0) + (if d = qe c 1 then 1 else 0) + (if d = qe c 0 then 1 else 0) := by
  unfold O₀ O₁ O₂ O₃
  rw [Pi.add_apply, Finsupp.add_apply, Pi.add_apply, Finsupp.add_apply, Pi.add_apply, Finsupp.add_apply, oweL_bar,
    tally_at, tally_at, tally_at, Nat.zero_add]

theorem owed_recv (d c : Dev nD) (jt : JT) : O₀ d (recvCell c jt) () = if d = qe c jt.1 then N else 0 := by
  unfold O₀ O₁ O₂ O₃
  rw [Pi.add_apply, Finsupp.add_apply, Pi.add_apply, Finsupp.add_apply, Pi.add_apply, Finsupp.add_apply, oweL_recv,
    tally_off _ _ _ (by simp), tally_off _ _ _ (by simp), tally_off _ _ _ (by simp), order_count, Nat.one_mul]; rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_add_distrib, Finset.sum_ite_eq' Finset.univ (qe c 2) fun _ => 1, Finset.sum_ite_eq' Finset.univ (qe c 1) fun _ => 1,
    Finset.sum_ite_eq' Finset.univ (qe c 0) fun _ => 1, if_pos (Finset.mem_univ _), if_pos (Finset.mem_univ _), if_pos (Finset.mem_univ _)]

theorem launch_recv (c : Dev nD) (jt : JT) :
    tallyOn (recvCell c jt) (launchCredit (Pipeline.owing O₀) 0 (recvCell c jt)) = (tallyAt (recvCell c jt) () N : CellTallies nD τ sig Unit) := by
  unfold tallyAt; refine congrArg _ (Finsupp.ext fun u => ?_); cases u
  rw [Pipeline.launchCredit_owing, Finsupp.single_eq_same, Finset.sum_congr rfl fun d _ => owed_recv d c jt,
    Finset.sum_ite_eq' Finset.univ (qe c jt.1) fun _ => N, if_pos (Finset.mem_univ _)]

/-- The receivers' semaphores, one for each send. -/
def recvEmb : JT ↪ SemLoc sig := ⟨fun jt => csem (some (true, jt)), fun a b h =>
  (Prod.mk.inj (Option.some.inj (csem_injective h))).2⟩

theorem creds (c : Dev nD) :
    (Pipeline.launchCred O₀ c : sProp 𝕄)
      ⊢ iprop(cred (tallyAt (barCell c) () 3) ∗ bigSep Finset.univ fun jt : JT => cred (tallyAt (recvCell c jt) () N)) := by
  have hs : (Finset.univ : Finset JT).map recvEmb ⊆ Finset.univ.erase (SemLoc.reg barS) := fun sm h => by
    obtain ⟨jt, -, rfl⟩ := Finset.mem_map.mp h
    exact Finset.mem_erase.mpr ⟨fun h => by
      have := csem_injective (show csem (some (true, jt)) = csem none from h)
      exact absurd this (by simp), Finset.mem_univ _⟩
  unfold Pipeline.launchCred
  rw [bigSep_univ_at _ (SemLoc.reg barS), launch_bar]
  refine sep_mono_right ((bigSep_subset hs).trans ?_)
  rw [BI.bigSep_map]
  exact Entails.of_eq (bigSep_congr fun jt _ => congrArg cred (launch_recv c jt))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ wAll m c fullShare.right) := by
  rw [Pipeline.unscopedRestP_none, unscopedRest0_eq]
  have hs : (((c : Thread nD τ).loc main_arg1) ↦{fullShare} m ((c : Thread nD τ).loc main_arg1) : sProp 𝕄)
      = iprop(wAll m c fullShare.left ∗ wAll m c fullShare.right) := by
    unfold wAll wv
    have h := pointsTo_share (ℓ := (c : Thread nD τ).loc main_arg1) (I := Finset.univ) (f := m ((c : Thread nD τ).loc main_arg1))
      (Ix := Unit) (Name := ℕ) (U := UU) (Lvl := ℕ) (PosShare.mem_left_op_right fullShare)
    exact equiv_iff.mp ⟨h.1, h.2⟩
  iintro ⟨Hu, Hlev, Hcr, -, HG⟩
  ihave Hc := (creds (F := F) c) $$ Hcr
  icases Hc with ⟨H1, HN⟩
  ihave Hw := (Entails.of_eq hs) $$ Hu
  icases Hw with ⟨Hwl, Hwr⟩
  imodintro
  unfold start G'
  icases HG with ⟨HG, Hsm⟩
  isplitr [Hwr]
  · isplitl [HG]; · iexact HG
    isplitl [Hsm]; · iexact Hsm
    isplitl [Hwl]; · iexact Hwl
    isplitl [H1]; · iexact H1
    isplitl [HN]; · iexact HN
    iexact Hlev
  · iexact Hwr

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr
  iintro ⟨Hr, HzW, HzS, HzV, HzB⟩
  isplitl [HzB]; · iexact HzB
  isplitl [HzW HzS HzV]
  · isplitl [HzW]; · iexact HzW
    isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t => by
    have hw : ∀ (w : Fin 2) (s) (k : CK), csem k ≠ .dma ((cfg0.spec w).sem s) := by decide +kernel
    have hl := lv_other c _ (hw w s)
    rcases t with ⟨_ | _, ht⟩
    · exact mayWait_of c _ 0 (O₀ c) hl.le fun g u h => O₀_pos h
    · exact mayWait_of c _ 0 0 hl.le fun g u h => absurd h (Nat.lt_irrefl 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- What is left of device `c` at the end, read off the final state. -/
theorem exit_read (c : Dev nD) (s' : Phys nD τ sig (Elt F)) :
    (iprop(unscopedSems0 c ∗ wAll m c fullShare.right ∗ SI s') : sProp 𝕄)
      ⊢ |={Set.univ}=> iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ SI s') := by
  iintro ⟨Hu, Hw, HSI⟩
  unfold wAll wv
  ihave %hw := (SI_pointsTo_agree (st := s') (ℓ := (c : Thread nD τ).loc main_arg1)) $$ [HSI Hw]
  · isplitl [HSI] <;> iassumption
  imod (Pipeline.unscopedSems0_read (X := unscopedSems0 c) (c := c) fupd_intro s') $$ [Hu HSI] with ⟨%hu, HSI⟩
  · isplitl [Hu] <;> iassumption
  imodintro
  isplitr
  · ipureintro; exact ⟨hu, funext fun i => hw i (Finset.mem_univ i)⟩
  · iexact HSI

set_option maxRecDepth 8000 in
/-- From any memory with zero counters every fair execution of @main ends, with each device's arrays at the contents
    computed, the weights unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_split _ _) $$ Hu
      icases H with ⟨HP, HX⟩
      imod (mint m ρ) $$ HX with HG
      imodintro
      isplitl [HP] <;> iassumption)
    (hglob := glob m ρ)
    (hA := fun _ _ => rfl) (hpf := fun _ k => k.elim0)
    (X := start m ρ) (Y := fun c => unscopedSems0 c) (Z := fun c => wAll m c fullShare.right)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := exit_read m)
    (hQ := fun _ h hs => ⟨fun c => ⟨fun w => (h c).1 w, (h c).2.2.2⟩, sem_eq_zero hs fun c => (h c).2.2.1⟩)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdealMM

end
-- ==== Proof.KernelIdealValue.lean ====
/-
`Value`: what the run leaves in the result, and its equality with the reference's over the reals.

Device `c` ends with `outAt` in its result. Its element in row `1024 p + r` and column `512 t + l` is the element in row
`r` and column `l` of the tile device `p` computed for column tile `t` of device `c`: the sum over `k` of row `r` of device `p`'s rows times column
`2048 c + 512 t + l` of the weights, kept above zero. That row is row `1024 p + r` of the whole array, so the element is
the one the reference has in the same row and in column `2048 c + (512 t + l)`, which is block `c` of its columns.
-/
module

public import proofs.«01_k».proof.Proof.KernelIdealLaunch
public import proofs.«01_k».proof.Proof.Gen.KernelIdeal.Points
public import proofs.«01_k».proof.Proof.Gen.ReferenceIdeal.Run
public import Idealize.ShloMosaic.Lib.Layout
public import Idealize.ShloMosaic.Lib.MatmulPlain
public import Idealize.ShloMosaic.Lib.StackMember
public import Idealize.ShloMosaic.Lib.Pipeline.Value

@[expose] public section

noncomputable section

namespace Cert.KernelIdealMM

open Cert.KernelIdeal Cert.KernelIdeal.Gen
open Idealize.ShloMosaic
open Idealize.ShloMosaic.TcCoe
open Idealize.ShloMosaic.Pipeline (Dat Cfg Window)

/-! ## The arrays at the end -/

section Run

variable {F : FTy → Type} [FloatOps F]
variable (m : (ℓ : Loc nD τ sig) → Buf (Elt F) ℓ) (ρ : Dev nD → PrngReg)

theorem x_emb (i : S1024x4096.Idx) : ((win0_0.blk (0 : Fin 1)).view.emb i : S1024x4096.Idx) = i := by
  have e : ∀ a : Fin 2, win0_0.index (0 : Fin 1) a * win0_0.size a = 0 := by decide
  funext a; apply Fin.ext
  show win0_0.index (0 : Fin 1) a * win0_0.size a + 1 * (i a).val = (i a).val
  rw [e a, Nat.zero_add, Nat.one_mul]

theorem xv_apply (c : Dev nD) (i : S1024x4096.Idx) : xv m ρ c i = m ((c : Thread nD τ).loc main_arg0) i :=
  congrArg (m ((c : Thread nD τ).loc main_arg0)) (x_emb i)

theorem o_emb (i : S4096x2048.Idx) : ((win0_1.blk (0 : Fin 1)).view.emb i : S4096x2048.Idx) = i := by
  have e : ∀ a : Fin 2, win0_1.index (0 : Fin 1) a * win0_1.size a = 0 := by decide
  funext a; apply Fin.ext
  show win0_1.index (0 : Fin 1) a * win0_1.size a + 1 * (i a).val = (i a).val
  rw [e a, Nat.zero_add, Nat.one_mul]

/-- The result's array ends at `outAt`: the one write-back covers it. -/
theorem finalA_out (c : Dev nD) : finalA m ρ c (1 : Fin 2) = outAt m ρ c := by
  refine (dats m ρ 0 c).arrAt_eq_of_cover (1 : Fin 2) (outAt m ρ c) (fun t _ => ?_) (fun i => ⟨t₀, flush0_1 _, ?_⟩)
  · obtain rfl := fin_N t
    funext i
    exact (congrArg (outAt m ρ c) (o_emb i)).symm
  · exact Finset.mem_map.mpr ⟨i, Finset.mem_univ _, o_emb i⟩

end Run

/-! ## The tile over the reals -/

/-- The product of two extended reals, whatever the format of the arrays they are from. -/
abbrev mulE (a b : EReal) : EReal := a * b

theorem tileVal_apply (w : Vec Ideal S4096x512 .f32) (x : Vec Ideal S1024x4096 .bf16) (r : Fin 1024) (l : Fin 512) :
    tileVal w x (ValueIdx.ix2 r l) = max ((∑ k : Fin 4096, mulE (x (ValueIdx.ix2 r k)) (w (ValueIdx.ix2 k l))) : EReal) (0 : EReal) := by
  have h := Ideal.matmul_plain_apply (M := 1024) (K := 4096) (N := 512) (φ₁ := .bf16) (φ₂ := .bf16) none x w
    (constant S1024x512 .f32 0x00000000#32) r l
  have h0 : (constant (F := Ideal) S1024x512 .f32 0x00000000#32) (ValueIdx.ix2 r l) = (0 : EReal) := Ideal.ofBits_zero_f32
  rw [h0, zero_add] at h
  exact congrArg₂ (fun a b : EReal => max a b) h Ideal.ofBits_zero_f32

variable (m : (ℓ : Loc nD τ sig) → Buf (Elt Ideal) ℓ) (ρ : Dev nD → PrngReg)

/-- An element of the tile device `p` computes for column tile `t` of device `c`. -/
theorem tileOf_apply (p c : Dev nD) (t : Fin 4) (r : Fin 1024) (l : Fin 512) :
    tileOf m ρ p c t (ValueIdx.ix2 r l) = max ((∑ k : Fin 4096,
        mulE (m ((p : Thread nD τ).loc main_arg0) (ValueIdx.ix2 r k : S1024x4096.Idx))
          (m ((p : Thread nD τ).loc main_arg1) ((wT c t).view.emb (ValueIdx.ix2 k l : S4096x512.Idx)))) : EReal) (0 : EReal) := by
  unfold tileOf
  rw [tileVal_apply]
  exact congrArg (fun z : EReal => max z 0) (Finset.sum_congr rfl fun k _ =>
    congrArg (fun z : EReal => mulE z _) (xv_apply m ρ p (ValueIdx.ix2 r k)))

/-- The weights' column `l` of tile `t` for device `c`. -/
theorem wT_emb (c : Dev nD) (t : Fin 4) (k : Fin 4096) (l : Fin 512) :
    ((wT c t).view.emb (ValueIdx.ix2 k l : S4096x512.Idx) : S4096x8192.Idx)
      = ValueIdx.ix2 k ⟨2048 * c.val + 512 * t.val + l.val, by have := c.isLt; have := t.isLt; have := l.isLt; change c.val < 4 at *; omega⟩ := by
  funext a; apply Fin.ext
  match a with
  | ⟨0, _⟩ => show 0 + 1 * k.val = k.val; omega
  | ⟨1, _⟩ => show (2048 * c.val + 512 * t.val) + 1 * l.val = 2048 * c.val + 512 * t.val + l.val; omega

/-! ## The reference over the reals -/

/-- The reference's result of the whole arrays. -/
def refOut (X : FVec Ideal Cert.ReferenceIdeal.S4096x4096 .bf16) (W : FVec Ideal Cert.ReferenceIdeal.S4096x8192 .f32) :
    FVec Ideal Cert.ReferenceIdeal.S4096x8192 .bf16 :=
  truncf .bf16 (maximumf (extf .f32 (truncf .bf16 (Host.dotGeneral (F := Ideal)
      Cert.ReferenceIdeal.dot_S4096x4096_S4096x8192_S4096x8192_1_0_0_1_n_n none X
      (truncf .bf16 W Cert.ReferenceIdeal.Gen.bitsLt_bf16_f32))
    Cert.ReferenceIdeal.Gen.bitsLt_bf16_f32) Cert.ReferenceIdeal.Gen.bitsLt_bf16_f32)
    (broadcastInDim Cert.ReferenceIdeal.S4096x8192 ![] Cert.ReferenceIdeal.Gen.bcast_S_S4096x8192
      (constant Cert.ReferenceIdeal.S_ .f32 0x00000000#32))) Cert.ReferenceIdeal.Gen.bitsLt_bf16_f32

theorem refOut_apply (X : FVec Ideal Cert.ReferenceIdeal.S4096x4096 .bf16) (W : FVec Ideal Cert.ReferenceIdeal.S4096x8192 .f32)
    (a : Fin 4096) (b : Fin 8192) :
    refOut X W (ValueIdx.ix2 a b)
      = max ((∑ k : Fin 4096, mulE (X (ValueIdx.ix2 a k)) (W (ValueIdx.ix2 k b))) : EReal) (0 : EReal) := by
  have h := StackMember.dotGeneral_plain_apply (m := 4096) (k := 4096) (n := 8192) (φ₁ := .bf16) (φ₂ := .bf16) none X W a b
  exact congrArg₂ (fun a b : EReal => max a b) h Ideal.ofBits_zero_f32

/-- Device `c`'s result is block `c` of the columns of the reference's. -/
theorem outAt_eq (X : FVec Ideal Cert.ReferenceIdeal.S4096x4096 .bf16) (W : FVec Ideal Cert.ReferenceIdeal.S4096x8192 .f32)
    (hX : ∀ c : Dev nD, m ((c : Thread nD τ).loc main_arg0) = Layout.block ⟨2, ![1024, 4096]⟩ ⟨2, ![4096, 4096]⟩ 0 4 c X)
    (hW : ∀ c : Dev nD, m ((c : Thread nD τ).loc main_arg1) = W) (c : Dev nD) :
    outAt m ρ c = Layout.block ⟨2, ![4096, 2048]⟩ ⟨2, ![4096, 8192]⟩ 1 4 c (refOut X W) := by
  funext i
  have h0 : (i (0 : Fin 2)).val < 4096 := (i (0 : Fin 2)).isLt
  have h1 : (i (1 : Fin 2)).val < 2048 := (i (1 : Fin 2)).isLt
  have hc : c.val < 4 := c.isLt
  rw [Layout.block_apply]
  have hT : Layout.Tiles ⟨2, ![4096, 2048]⟩ ⟨2, ![4096, 8192]⟩ 1 4 := by decide
  have hi : hT.idx c i = ValueIdx.ix2 (⟨(i (0 : Fin 2)).val, h0⟩ : Fin 4096) (⟨c.val * 2048 + (i (1 : Fin 2)).val, by omega⟩ : Fin 8192) := by
    funext a; apply Fin.ext
    match a with
    | ⟨0, _⟩ => rfl
    | ⟨1, _⟩ => rfl
  rw [hi, refOut_apply]
  refine (tileOf_apply m ρ _ c _ _ _).trans ?_
  refine congrArg (fun z : EReal => max z 0) (Finset.sum_congr rfl fun k _ => ?_)
  refine congrArg₂ mulE ?_ ?_
  · rw [hX, Layout.block_apply]
    refine congrArg X (funext fun a => Fin.ext ?_)
    match a with
    | ⟨0, _⟩ => show (i (0 : Fin 2)).val / 1024 * 1024 + (i (0 : Fin 2)).val % 1024 = (i (0 : Fin 2)).val; omega
    | ⟨1, _⟩ => rfl
  · rw [hW, wT_emb]
    refine congrArg W (funext fun a => Fin.ext ?_)
    match a with
    | ⟨0, _⟩ => rfl
    | ⟨1, _⟩ =>
      show 2048 * c.val + 512 * ((i (1 : Fin 2)).val / 512) + (i (1 : Fin 2)).val % 512 = c.val * 2048 + (i (1 : Fin 2)).val
      omega

end Cert.KernelIdealMM

end
-- ==== Proof.lean ====
/-
The claims about the multiply-then-exchange kernel on four devices.

Each kernel's claim about its run is `run_main` of `Proof/KernelLaunch.lean` (and of its copy for the program read over
the reals), the reference's is the run of its host operations, and the value claim joins the two runs by
`outAt_eq` of `Proof/KernelIdealValue.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.KernelIdealValue
public import Idealize.ShloMosaic.Adequacy
public import Idealize.ShloMosaic.Init

@[expose] public section

noncomputable section

namespace Cert.Proof

open Idealize.ShloMosaic Idealize.ShloMosaic.TcCoe Idealize.SL.Sem

/-- The kernel as printed: it ends with its arguments unchanged and every counter at zero. -/
theorem frame_kernel : Cert.quiescent_Kernel := fun m ρ _ =>
  (θ_run Cert.Kernel.defs _ _).mono
    (fun _ h => ⟨fun c => ⟨((h.1 c).1 (0 : Fin 2)).trans (Cert.KernelMM.finalA_x m ρ c), (h.1 c).2⟩, h.2⟩)
    (Cert.KernelMM.run_main (F := Bits) m ρ)

/-- The same of the kernel over the reals. -/
theorem frame_kernelIdeal : Cert.quiescent_KernelIdeal := fun m ρ _ =>
  (θ_run Cert.KernelIdeal.defs _ _).mono
    (fun _ h => ⟨fun c => ⟨((h.1 c).1 (0 : Fin 2)).trans (Cert.KernelIdealMM.finalA_x m ρ c), (h.1 c).2⟩, h.2⟩)
    (Cert.KernelIdealMM.run_main (F := Ideal) m ρ)

/-- The reference has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the reals device `c` ends with block `c` of the columns of the reference's result. -/
theorem value : Cert.algebraic_KernelIdeal_ReferenceIdeal := by
  intro m ρ m' ρ' _ hagree
  refine ⟨Cert.KernelIdealMM.refOut
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨?_, ?_, (h.1 c).2⟩)
      (Cert.KernelIdealMM.run_main (F := Ideal) m ρ)
    · exact (((h.1 c).1 (1 : Fin 2)).trans (Cert.KernelIdealMM.finalA_out m ρ c)).trans
        (Cert.KernelIdealMM.outAt_eq m ρ _ _ (fun c => (hagree c).1) (fun c => (hagree c).2) c)
    · exact ((h.1 c).1 (0 : Fin 2)).trans (Cert.KernelIdealMM.finalA_x m ρ c)
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts,
    frame_kernel, frame_kernelIdeal, frame_reference, trivial, value⟩

end Cert.Proof

end
